-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "lp_norm" .f32 0x3F333333#32 ((7 / 10 : ℝ) : EReal)
  ∧ IdealRules.named_const.Statement Cert.KernelIdeal.κ "lp_less_two" .f32 0xBFA66666#32 ((-13 / 10 : ℝ) : EReal)
  ∧ IdealRules.bf16_pair.Statement Cert.KernelIdeal.S64x128 Cert.KernelIdeal.S32x128
  ∧ IdealRules.bf16_pair.Statement Cert.KernelIdeal.S8x2x128 Cert.KernelIdeal.S8x1x128
  ∧ IdealRules.bf16_pair.Statement Cert.KernelIdeal.S16x128 Cert.KernelIdeal.S8x128
  ∧ IdealRules.named_const.Statement Cert.KernelIdeal.κ "log2_beta_init" .f32 0x40549A78#32 (((Real.log 10) * (Real.log 2)⁻¹ : ℝ) : EReal)
  ∧ IdealRules.named_const.Statement Cert.KernelIdeal.κ "log2_beta_growth" .f32 0x3C6B3276#32 (((Real.log (101 / 100)) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x5760x2880 : Shape := ⟨3, ![2, 5760, 2880]⟩
abbrev S_ : Shape := ⟨0, ![]⟩

class Facts : Prop where
  bitsLt_bf16_f32 : FTy.bits .bf16 < FTy.bits .f32
  bcast_S_S2x5760x2880 : S_.BroadcastsInDim S2x5760x2880 (![] : Fin 0 → Fin S2x5760x2880.rank)

variable [Facts]

def fn {F : FTy → Type} [FloatOps F] (main_arg0 : FVec F S2x5760x2880 .bf16) : IVec S2x5760x2880 1 :=
  let main_v0 : FVec F S2x5760x2880 .f32 := (extf .f32 · bitsLt_bf16_f32) main_arg0
  let main_cst : FVec F S_ .f32 := constant S_ .f32 0x7F800000#32
  let main_v1 : FVec F S2x5760x2880 .f32 := broadcastInDim S2x5760x2880 ![] bcast_S_S2x5760x2880 main_cst
  let main_v2 : IVec S2x5760x2880 1 := cmpf .olt main_v0 main_v1
  let main_cst_0 : FVec F S_ .f32 := constant S_ .f32 0xFF800000#32
  let main_v3 : FVec F S2x5760x2880 .f32 := broadcastInDim S2x5760x2880 ![] bcast_S_S2x5760x2880 main_cst_0
  let main_v4 : IVec S2x5760x2880 1 := cmpf .ogt main_v0 main_v3
  let main_v5 : IVec S2x5760x2880 1 := andi main_v2 main_v4
  main_v5
-- ==== Kernel.lean ====
abbrev S2x5760x2880 : Shape := ⟨3, ![2, 5760, 2880]⟩
abbrev S2x2880x5760 : Shape := ⟨3, ![2, 2880, 5760]⟩
abbrev S2x720x5760 : Shape := ⟨3, ![2, 720, 5760]⟩
abbrev S45x2x5760 : Shape := ⟨3, ![45, 2, 5760]⟩
abbrev S2x2880x384 : Shape := ⟨3, ![2, 2880, 384]⟩
abbrev S2x720x384 : Shape := ⟨3, ![2, 720, 384]⟩
abbrev S45x2x384 : Shape := ⟨3, ![45, 2, 384]⟩
abbrev S17664x128 : Shape := ⟨2, ![17664, 128]⟩
abbrev S1024x128 : Shape := ⟨2, ![1024, 128]⟩
abbrev S1088x128 : Shape := ⟨2, ![1088, 128]⟩
abbrev S4x272x128 : Shape := ⟨3, ![4, 272, 128]⟩
abbrev S8x128 : Shape := ⟨2, ![8, 128]⟩
abbrev S1x64x128 : Shape := ⟨3, ![1, 64, 128]⟩
abbrev S64x128 : Shape := ⟨2, ![64, 128]⟩
abbrev S32x128 : Shape := ⟨2, ![32, 128]⟩
abbrev S8832x128 : Shape := ⟨2, ![8832, 128]⟩
abbrev S8832x2x128 : Shape := ⟨3, ![8832, 2, 128]⟩
abbrev S8x2x128 : Shape := ⟨3, ![8, 2, 128]⟩
abbrev S8x1x128 : Shape := ⟨3, ![8, 1, 128]⟩
abbrev S16x128 : Shape := ⟨2, ![16, 128]⟩
abbrev S1x8x128 : Shape := ⟨3, ![1, 8, 128]⟩
abbrev S180x128 : Shape := ⟨2, ![180, 128]⟩
abbrev S720x128 : Shape := ⟨2, ![720, 128]⟩
abbrev S1x720x128 : Shape := ⟨3, ![1, 720, 128]⟩
abbrev S1x45x128 : Shape := ⟨3, ![1, 45, 128]⟩
abbrev S45x128 : Shape := ⟨2, ![45, 128]⟩
abbrev S45x1x128 : Shape := ⟨3, ![45, 1, 128]⟩
abbrev S2x5760x720 : Shape := ⟨3, ![2, 5760, 720]⟩
abbrev S2x5760x45 : Shape := ⟨3, ![2, 5760, 45]⟩

abbrev nBuf : Space → Nat
  | .hbm => 12
  | .vmem => 16
  | .smem => 0
  | _ => 0

abbrev bufTy : (tb : Table) → Fin (tcTables nBuf tb) → BufTy
  | .hbm, ⟨0, _⟩ => ⟨S2x5760x2880, .bf16⟩
  | .hbm, ⟨1, _⟩ => ⟨S2x2880x5760, .bf16⟩
  | .hbm, ⟨2, _⟩ => ⟨S2x720x5760, .i8⟩
  | .hbm, ⟨3, _⟩ => ⟨S45x2x5760, .f32⟩
  | .hbm, ⟨4, _⟩ => ⟨S45x2x5760, .f32⟩
  | .hbm, ⟨5, _⟩ => ⟨S45x2x5760, .f32⟩
  | .hbm, ⟨6, _⟩ => ⟨S45x2x5760, .f32⟩
  | .hbm, ⟨7, _⟩ => ⟨S2x5760x720, .i8⟩
  | .hbm, ⟨8, _⟩ => ⟨S2x5760x45, .f32⟩
  | .hbm, ⟨9, _⟩ => ⟨S2x5760x45, .f32⟩
  | .hbm, ⟨10, _⟩ => ⟨S2x5760x45, .f32⟩
  | .hbm, ⟨11, _⟩ => ⟨S2x5760x45, .f32⟩
  | .local _ .vmem, ⟨0, _⟩ => ⟨S2x2880x384, .bf16⟩
  | .local _ .vmem, ⟨1, _⟩ => ⟨S2x2880x384, .bf16⟩
  | .local _ .vmem, ⟨2, _⟩ => ⟨S2x720x384, .i8⟩
  | .local _ .vmem, ⟨3, _⟩ => ⟨S2x720x384, .i8⟩
  | .local _ .vmem, ⟨4, _⟩ => ⟨S45x2x384, .f32⟩
  | .local _ .vmem, ⟨5, _⟩ => ⟨S45x2x384, .f32⟩
  | .local _ .vmem, ⟨6, _⟩ => ⟨S45x2x384, .f32⟩
  | .local _ .vmem, ⟨7, _⟩ => ⟨S45x2x384, .f32⟩
  | .local _ .vmem, ⟨8, _⟩ => ⟨S45x2x384, .f32⟩
  | .local _ .vmem, ⟨9, _⟩ => ⟨S45x2x384, .f32⟩
  | .local _ .vmem, ⟨10, _⟩ => ⟨S45x2x384, .f32⟩
  | .local _ .vmem, ⟨11, _⟩ => ⟨S45x2x384, .f32⟩
  | .local _ .vmem, ⟨12, _⟩ => ⟨S17664x128, .bf16⟩
  | .local _ .vmem, ⟨13, _⟩ => ⟨S1024x128, .f32⟩
  | .local _ .vmem, ⟨14, _⟩ => ⟨S1088x128, .i32⟩
  | .local _ .vmem, ⟨15, _⟩ => ⟨S4x272x128, .f32⟩
  | _, _ => ⟨S2x5760x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![15], ![false]⟩

@[reducible] def k0_t1_loop : Scf.Loop 32 :=
  let c0_i32_2 : BitVec 32 := 0#32
  let c45_i32 : BitVec 32 := 45#32
  let v5 : BitVec 32 := Scalar.addi c0_i32_2 c45_i32
  let c1_i32 : BitVec 32 := 1#32
  ⟨c0_i32_2, v5, c1_i32⟩
def k0_mult1 (k0_t1 : Fin k0_t1_loop.trips) : BitVec 32 :=
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32 : BitVec 32 := 64#32
  let v159 : BitVec 32 := Scalar.muli v158 c64_i32
  v159
def k0_off1 (k0_t1 : Fin k0_t1_loop.trips) : Fin 3 → Nat :=
  let c0_168 : Index := 0#32
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32 : BitVec 32 := 64#32
  let v159 : BitVec 32 := Scalar.muli v158 c64_i32
  let v160 : BitVec 32 := v159
  let v161 : Index := Scalar.indexCast v160
  let c0_169 : Index := 0#32
  ![0, v161.toNat, 0]
def k0_off2 (k0_t1 : Fin k0_t1_loop.trips) (c0_i32_170 : BitVec 32) : Fin 3 → Nat :=
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let v165 : BitVec 32 := Scalar.addi c0_i32_170 v158
  let v168 : Index := Scalar.indexCast v165
  let c0_171 : Index := 0#32
  ![v168.toNat, 0, 0]
def k0_off2_at (r : Fin 24) : BitVec 32 :=
  if r.val < 12 then
    if r.val < 6 then
      if r.val < 3 then
        if r.val < 1 then
          0#32
        else
          if r.val < 2 then
            2208#32
          else
            4416#32
      else
        if r.val < 4 then
          6624#32
        else
          if r.val < 5 then
            45#32
          else
            2253#32
    else
      if r.val < 9 then
        if r.val < 7 then
          4461#32
        else
          if r.val < 8 then
            6669#32
          else
            90#32
      else
        if r.val < 10 then
          2298#32
        else
          if r.val < 11 then
            4506#32
          else
            6714#32
  else
    if r.val < 18 then
      if r.val < 15 then
        if r.val < 13 then
          135#32
        else
          if r.val < 14 then
            2343#32
          else
            4551#32
      else
        if r.val < 16 then
          6759#32
        else
          if r.val < 17 then
            180#32
          else
            2388#32
    else
      if r.val < 21 then
        if r.val < 19 then
          4596#32
        else
          if r.val < 20 then
            6804#32
          else
            225#32
      else
        if r.val < 22 then
          2433#32
        else
          if r.val < 23 then
            4641#32
          else
            6849#32
def k0_mult2 (k0_t1 : Fin k0_t1_loop.trips) : BitVec 32 :=
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32_175 : BitVec 32 := 64#32
  let v193 : BitVec 32 := Scalar.muli v158 c64_i32_175
  v193
def k0_off3 (k0_t1 : Fin k0_t1_loop.trips) : Fin 3 → Nat :=
  let c0_176 : Index := 0#32
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32_175 : BitVec 32 := 64#32
  let v193 : BitVec 32 := Scalar.muli v158 c64_i32_175
  let v194 : BitVec 32 := v193
  let v195 : Index := Scalar.indexCast v194
  let c128_177 : Index := 128#32
  ![0, v195.toNat, 128]
def k0_mult3 (k0_t1 : Fin k0_t1_loop.trips) : BitVec 32 :=
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32_183 : BitVec 32 := 64#32
  let v227 : BitVec 32 := Scalar.muli v158 c64_i32_183
  v227
def k0_off4 (k0_t1 : Fin k0_t1_loop.trips) : Fin 3 → Nat :=
  let c0_184 : Index := 0#32
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32_183 : BitVec 32 := 64#32
  let v227 : BitVec 32 := Scalar.muli v158 c64_i32_183
  let v228 : BitVec 32 := v227
  let v229 : Index := Scalar.indexCast v228
  let c256_185 : Index := 256#32
  ![0, v229.toNat, 256]
def k0_mult4 (k0_t1 : Fin k0_t1_loop.trips) : BitVec 32 :=
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32_190 : BitVec 32 := 64#32
  let v261 : BitVec 32 := Scalar.muli v158 c64_i32_190
  v261
def k0_off5 (k0_t1 : Fin k0_t1_loop.trips) : Fin 3 → Nat :=
  let c1_191 : Index := 1#32
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32_190 : BitVec 32 := 64#32
  let v261 : BitVec 32 := Scalar.muli v158 c64_i32_190
  let v262 : BitVec 32 := v261
  let v263 : Index := Scalar.indexCast v262
  let c0_192 : Index := 0#32
  ![1, v263.toNat, 0]
def k0_mult5 (k0_t1 : Fin k0_t1_loop.trips) : BitVec 32 :=
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32_197 : BitVec 32 := 64#32
  let v295 : BitVec 32 := Scalar.muli v158 c64_i32_197
  v295
def k0_off6 (k0_t1 : Fin k0_t1_loop.trips) : Fin 3 → Nat :=
  let c1_198 : Index := 1#32
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32_197 : BitVec 32 := 64#32
  let v295 : BitVec 32 := Scalar.muli v158 c64_i32_197
  let v296 : BitVec 32 := v295
  let v297 : Index := Scalar.indexCast v296
  let c128_199 : Index := 128#32
  ![1, v297.toNat, 128]
def k0_mult6 (k0_t1 : Fin k0_t1_loop.trips) : BitVec 32 :=
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32_204 : BitVec 32 := 64#32
  let v329 : BitVec 32 := Scalar.muli v158 c64_i32_204
  v329
def k0_off7 (k0_t1 : Fin k0_t1_loop.trips) : Fin 3 → Nat :=
  let c1_205 : Index := 1#32
  let c0_i32_167 : BitVec 32 := 0#32
  let c0_i32_2 : BitVec 32 := 0#32
  let c1_i32 : BitVec 32 := 1#32
  let arg11 : BitVec 32 := Scf.iv c0_i32_2 c1_i32 k0_t1
  let c1_i32_166 : BitVec 32 := 1#32
  let v157 : BitVec 32 := Scalar.muli arg11 c1_i32_166
  let v158 : BitVec 32 := Scalar.addi c0_i32_167 v157
  let c64_i32_204 : BitVec 32 := 64#32
  let v329 : BitVec 32 := Scalar.muli v158 c64_i32_204
  let v330 : BitVec 32 := v329
  let v331 : Index := Scalar.indexCast v330
  let c256_206 : Index := 256#32
  ![1, v331.toNat, 256]
@[reducible] def k0_t2_loop : Scf.Loop 32 :=
  let c0_i32_4 : BitVec 32 := 0#32
  let c17_i32 : BitVec 32 := 17#32
  let v6 : BitVec 32 := Scalar.addi c0_i32_4 c17_i32
  let c1_i32_5 : BitVec 32 := 1#32
  ⟨c0_i32_4, v6, c1_i32_5⟩
def k0_off8 (k0_t2 : Fin k0_t2_loop.trips) (c0_i32_168 : BitVec 32) (c0_i32_169 : BitVec 32) : Fin 2 → Nat :=
  let c0_i32_167 : BitVec 32 := 0#32
  let c0_i32_4 : BitVec 32 := 0#32
  let c1_i32_5 : BitVec 32 := 1#32
  let arg11 : BitVec 32 := Scf.iv c0_i32_4 c1_i32_5 k0_t2
  let c1_i32_166 : BitVec 32 := 1#32
  let v157 : BitVec 32 := Scalar.muli arg11 c1_i32_166
  let v158 : BitVec 32 := Scalar.addi c0_i32_167 v157
  let c16_i32 : BitVec 32 := 16#32
  let v159 : BitVec 32 := Scalar.muli v158 c16_i32
  let v160 : BitVec 32 := Scalar.addi c0_i32_168 v159
  let v161 : BitVec 32 := Scalar.addi v160 c0_i32_169
  let v163 : Index := Scalar.indexCast v161
  let c0_170 : Index := 0#32
  ![Nat.mul 2 v163.toNat, 0]
@[reducible] def k0_t3_loop : Scf.Loop 32 :=
  let c0_i32_1238 : BitVec 32 := 0#32
  let c10_i32 : BitVec 32 := 10#32
  let v3068 : BitVec 32 := Scalar.addi c0_i32_1238 c10_i32
  let c1_i32_1239 : BitVec 32 := 1#32
  ⟨c0_i32_1238, v3068, c1_i32_1239⟩
def k0_mult7 (k0_t2 : Fin k0_t2_loop.trips) : BitVec 32 :=
  let c0_i32_167 : BitVec 32 := 0#32
  let c0_i32_4 : BitVec 32 := 0#32
  let c1_i32_5 : BitVec 32 := 1#32
  let arg11 : BitVec 32 := Scf.iv c0_i32_4 c1_i32_5 k0_t2
  let c1_i32_166 : BitVec 32 := 1#32
  let v157 : BitVec 32 := Scalar.muli arg11 c1_i32_166
  let v158 : BitVec 32 := Scalar.addi c0_i32_167 v157
  let c16_i32 : BitVec 32 := 16#32
  let v159 : BitVec 32 := Scalar.muli v158 c16_i32
  let c0_i32_1240 : BitVec 32 := 0#32
  let v3070 : BitVec 32 := Scalar.addi v159 c0_i32_1240
  v3070
def k0_off9 (k0_t2 : Fin k0_t2_loop.trips) (c0_i32_1240 : BitVec 32) (c0_i32_1353 : BitVec 32) : Fin 2 → Nat :=
  let c0_i32_167 : BitVec 32 := 0#32
  let c0_i32_4 : BitVec 32 := 0#32
  let c1_i32_5 : BitVec 32 := 1#32
  let arg11 : BitVec 32 := Scf.iv c0_i32_4 c1_i32_5 k0_t2
  let c1_i32_166 : BitVec 32 := 1#32
  let v157 : BitVec 32 := Scalar.muli arg11 c1_i32_166
  let v158 : BitVec 32 := Scalar.addi c0_i32_167 v157
  let c16_i32 : BitVec 32 := 16#32
  let v159 : BitVec 32 := Scalar.muli v158 c16_i32
  let v3070 : BitVec 32 := Scalar.addi v159 c0_i32_1240
  let v3071 : BitVec 32 := v3070
  let c4_i32 : BitVec 32 := 4#32
  let v3376 : BitVec 32 := Scalar.muli v3071 c4_i32
  let v3377 : BitVec 32 := Scalar.addi v3376 c0_i32_1353
  let v3425 : Index := Scalar.indexCast v3377
  let c0_1369 : Index := 0#32
  ![v3425.toNat, 0]
def k0_off10 (k0_t2 : Fin k0_t2_loop.trips) (c0_i32_1240 : BitVec 32) : Fin 3 → Nat :=
  let c0_1760 : Index := 0#32
  let c0_i32_167 : BitVec 32 := 0#32
  let c0_i32_4 : BitVec 32 := 0#32
  let c1_i32_5 : BitVec 32 := 1#32
  let arg11 : BitVec 32 := Scf.iv c0_i32_4 c1_i32_5 k0_t2
  let c1_i32_166 : BitVec 32 := 1#32
  let v157 : BitVec 32 := Scalar.muli arg11 c1_i32_166
  let v158 : BitVec 32 := Scalar.addi c0_i32_167 v157
  let c16_i32 : BitVec 32 := 16#32
  let v159 : BitVec 32 := Scalar.muli v158 c16_i32
  let v3070 : BitVec 32 := Scalar.addi v159 c0_i32_1240
  let v3071 : BitVec 32 := v3070
  let v4573 : Index := Scalar.indexCast v3071
  let c0_1761 : Index := 0#32
  ![0, v4573.toNat, 0]
def k0_off11 (k0_t2 : Fin k0_t2_loop.trips) (c0_i32_1240 : BitVec 32) : Fin 3 → Nat :=
  let c1_1762 : Index := 1#32
  let c0_i32_167 : BitVec 32 := 0#32
  let c0_i32_4 : BitVec 32 := 0#32
  let c1_i32_5 : BitVec 32 := 1#32
  let arg11 : BitVec 32 := Scf.iv c0_i32_4 c1_i32_5 k0_t2
  let c1_i32_166 : BitVec 32 := 1#32
  let v157 : BitVec 32 := Scalar.muli arg11 c1_i32_166
  let v158 : BitVec 32 := Scalar.addi c0_i32_167 v157
  let c16_i32 : BitVec 32 := 16#32
  let v159 : BitVec 32 := Scalar.muli v158 c16_i32
  let v3070 : BitVec 32 := Scalar.addi v159 c0_i32_1240
  let v3071 : BitVec 32 := v3070
  let v4577 : Index := Scalar.indexCast v3071
  let c0_1763 : Index := 0#32
  ![1, v4577.toNat, 0]
def k0_off12 (k0_t2 : Fin k0_t2_loop.trips) (c0_i32_1240 : BitVec 32) : Fin 3 → Nat :=
  let c2_1764 : Index := 2#32
  let c0_i32_167 : BitVec 32 := 0#32
  let c0_i32_4 : BitVec 32 := 0#32
  let c1_i32_5 : BitVec 32 := 1#32
  let arg11 : BitVec 32 := Scf.iv c0_i32_4 c1_i32_5 k0_t2
  let c1_i32_166 : BitVec 32 := 1#32
  let v157 : BitVec 32 := Scalar.muli arg11 c1_i32_166
  let v158 : BitVec 32 := Scalar.addi c0_i32_167 v157
  let c16_i32 : BitVec 32 := 16#32
  let v159 : BitVec 32 := Scalar.muli v158 c16_i32
  let v3070 : BitVec 32 := Scalar.addi v159 c0_i32_1240
  let v3071 : BitVec 32 := v3070
  let v4581 : Index := Scalar.indexCast v3071
  let c0_1765 : Index := 0#32
  ![2, v4581.toNat, 0]
def k0_off13 (k0_t2 : Fin k0_t2_loop.trips) (c0_i32_1240 : BitVec 32) : Fin 3 → Nat :=
  let c3_1766 : Index := 3#32
  let c0_i32_167 : BitVec 32 := 0#32
  let c0_i32_4 : BitVec 32 := 0#32
  let c1_i32_5 : BitVec 32 := 1#32
  let arg11 : BitVec 32 := Scf.iv c0_i32_4 c1_i32_5 k0_t2
  let c1_i32_166 : BitVec 32 := 1#32
  let v157 : BitVec 32 := Scalar.muli arg11 c1_i32_166
  let v158 : BitVec 32 := Scalar.addi c0_i32_167 v157
  let c16_i32 : BitVec 32 := 16#32
  let v159 : BitVec 32 := Scalar.muli v158 c16_i32
  let v3070 : BitVec 32 := Scalar.addi v159 c0_i32_1240
  let v3071 : BitVec 32 := v3070
  let v4585 : Index := Scalar.indexCast v3071
  let c0_1767 : Index := 0#32
  ![3, v4585.toNat, 0]
def k0_mult8 (k0_t2 : Fin k0_t2_loop.trips) : BitVec 32 :=
  let c0_i32_167 : BitVec 32 := 0#32
  let c0_i32_4 : BitVec 32 := 0#32
  let c1_i32_5 : BitVec 32 := 1#32
  let arg11 : BitVec 32 := Scf.iv c0_i32_4 c1_i32_5 k0_t2
  let c1_i32_166 : BitVec 32 := 1#32
  let v157 : BitVec 32 := Scalar.muli arg11 c1_i32_166
  let v158 : BitVec 32 := Scalar.addi c0_i32_167 v157
  let c16_i32 : BitVec 32 := 16#32
  let v159 : BitVec 32 := Scalar.muli v158 c16_i32
  let c8_i32_1768 : BitVec 32 := 8#32
  let v4589 : BitVec 32 := Scalar.addi v159 c8_i32_1768
  v4589
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x2880x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x720x384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S45x2x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S45x2x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S45x2x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S45x2x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log2_beta_growth" => some (((Real.log (101 / 100)) * (Real.log 2)⁻¹ : ℝ) : EReal)
  | "log2_beta_init" => some (((Real.log 10) * (Real.log 2)⁻¹ : ℝ) : EReal)
  | "lp_less_two" => some ((-13 / 10 : ℝ) : EReal)
  | "lp_norm" => some ((7 / 10 : ℝ) : EReal)
  | _ => none
-- ==== ReferenceIdeal.lean ====
abbrev S2x5760x2880 : Shape := ⟨3, ![2, 5760, 2880]⟩
abbrev S2x5760x45x64 : Shape := ⟨4, ![2, 5760, 45, 64]⟩
abbrev S2x45x64x5760 : Shape := ⟨4, ![2, 45, 64, 5760]⟩
abbrev S_ : Shape := ⟨0, ![]⟩
abbrev S2x45x5760 : Shape := ⟨3, ![2, 45, 5760]⟩
abbrev S2x45x1x5760 : Shape := ⟨4, ![2, 45, 1, 5760]⟩
abbrev S2x5760x45 : Shape := ⟨3, ![2, 5760, 45]⟩
abbrev S2x45x16x4x5760 : Shape := ⟨5, ![2, 45, 16, 4, 5760]⟩
abbrev S2x45x16x1x5760 : Shape := ⟨5, ![2, 45, 16, 1, 5760]⟩
abbrev S2x45x16x5760 : Shape := ⟨4, ![2, 45, 16, 5760]⟩
abbrev S2x5760x45x16 : Shape := ⟨4, ![2, 5760, 45, 16]⟩
abbrev S2x5760x720 : Shape := ⟨3, ![2, 5760, 720]⟩

abbrev nBuf : Space → Nat
  | .hbm => 158
  | .vmem => 0
  | .smem => 0
  | _ => 0

abbrev hbmTy0_0 (i : Nat) : BufTy := match i % 128 with
  | 0 => ⟨S2x5760x2880, .bf16⟩
  | 1 => ⟨S2x5760x45x64, .bf16⟩
  | 2 => ⟨S2x45x64x5760, .bf16⟩
  | 3 => ⟨S2x45x64x5760, .f32⟩
  | 4 => ⟨S_, .f32⟩
  | 5 => ⟨S2x45x5760, .f32⟩
  | 6 => ⟨S2x45x1x5760, .f32⟩
  | 7 => ⟨S_, .f32⟩
  | 8 => ⟨S2x45x5760, .f32⟩
  | 9 => ⟨S2x45x1x5760, .f32⟩
  | 10 => ⟨S2x45x1x5760, .i1⟩
  | 11 => ⟨S2x45x1x5760, .f32⟩
  | 12 => ⟨S_, .f32⟩
  | 13 => ⟨S2x45x1x5760, .f32⟩
  | 14 => ⟨S2x45x1x5760, .f32⟩
  | 15 => ⟨S_, .f32⟩
  | 16 => ⟨S_, .f32⟩
  | 17 => ⟨S2x45x1x5760, .f32⟩
  | 18 => ⟨S2x45x1x5760, .f32⟩
  | 19 => ⟨S_, .f32⟩
  | 20 => ⟨S2x45x1x5760, .f32⟩
  | 21 => ⟨S2x45x1x5760, .f32⟩
  | 22 => ⟨S2x45x1x5760, .f32⟩
  | 23 => ⟨S_, .i32⟩
  | 24 => ⟨S_, .f32⟩
  | 25 => ⟨S_, .i32⟩
  | 26 => ⟨S2x45x64x5760, .f32⟩
  | 27 => ⟨S2x45x1x5760, .f32⟩
  | 28 => ⟨S_, .i32⟩
  | 29 => ⟨S_, .i32⟩
  | 30 => ⟨S2x45x1x5760, .f32⟩
  | 31 => ⟨S_, .f32⟩
  | 32 => ⟨S_, .i32⟩
  | 33 => ⟨S_, .i1⟩
  | 34 => ⟨S_, .i32⟩
  | 35 => ⟨S_, .i32⟩
  | 36 => ⟨S2x45x64x5760, .f32⟩
  | 37 => ⟨S2x45x64x5760, .f32⟩
  | 38 => ⟨S2x45x64x5760, .f32⟩
  | 39 => ⟨S2x45x64x5760, .f32⟩
  | 40 => ⟨S2x45x64x5760, .f32⟩
  | 41 => ⟨S_, .f32⟩
  | 42 => ⟨S_, .f32⟩
  | 43 => ⟨S_, .f32⟩
  | 44 => ⟨S2x45x64x5760, .f32⟩
  | 45 => ⟨S2x45x64x5760, .f32⟩
  | 46 => ⟨S_, .f32⟩
  | 47 => ⟨S2x45x64x5760, .f32⟩
  | 48 => ⟨S2x45x64x5760, .f32⟩
  | 49 => ⟨S2x45x64x5760, .f32⟩
  | 50 => ⟨S2x45x64x5760, .f32⟩
  | 51 => ⟨S2x45x64x5760, .f32⟩
  | 52 => ⟨S2x45x64x5760, .f32⟩
  | 53 => ⟨S2x45x64x5760, .f32⟩
  | 54 => ⟨S2x45x64x5760, .f32⟩
  | 55 => ⟨S2x45x64x5760, .f32⟩
  | 56 => ⟨S_, .f32⟩
  | 57 => ⟨S_, .f32⟩
  | 58 => ⟨S_, .f32⟩
  | 59 => ⟨S2x45x64x5760, .f32⟩
  | 60 => ⟨S2x45x64x5760, .i1⟩
  | 61 => ⟨S_, .f32⟩
  | 62 => ⟨S_, .f32⟩
  | 63 => ⟨S2x45x64x5760, .f32⟩
  | 64 => ⟨S2x45x64x5760, .f32⟩
  | 65 => ⟨S_, .f32⟩
  | 66 => ⟨S_, .f32⟩
  | 67 => ⟨S_, .f32⟩
  | 68 => ⟨S_, .f32⟩
  | 69 => ⟨S_, .f32⟩
  | 70 => ⟨S2x45x64x5760, .f32⟩
  | 71 => ⟨S2x45x64x5760, .f32⟩
  | 72 => ⟨S2x45x64x5760, .f32⟩
  | 73 => ⟨S2x45x64x5760, .f32⟩
  | 74 => ⟨S2x45x64x5760, .f32⟩
  | 75 => ⟨S_, .f32⟩
  | 76 => ⟨S2x45x64x5760, .f32⟩
  | 77 => ⟨S2x45x64x5760, .f32⟩
  | 78 => ⟨S2x45x64x5760, .f32⟩
  | 79 => ⟨S2x45x64x5760, .f32⟩
  | 80 => ⟨S2x45x64x5760, .f32⟩
  | 81 => ⟨S2x45x64x5760, .f32⟩
  | 82 => ⟨S2x45x64x5760, .f32⟩
  | 83 => ⟨S_, .f32⟩
  | 84 => ⟨S2x45x5760, .f32⟩
  | 85 => ⟨S2x45x1x5760, .f32⟩
  | 86 => ⟨S_, .f32⟩
  | 87 => ⟨S2x45x1x5760, .f32⟩
  | 88 => ⟨S2x45x1x5760, .f32⟩
  | 89 => ⟨S_, .f32⟩
  | 90 => ⟨S_, .f32⟩
  | 91 => ⟨S_, .f32⟩
  | 92 => ⟨S_, .f32⟩
  | 93 => ⟨S_, .i32⟩
  | 94 => ⟨S_, .i32⟩
  | 95 => ⟨S2x45x64x5760, .f32⟩
  | 96 => ⟨S2x45x64x5760, .f32⟩
  | 97 => ⟨S2x45x64x5760, .f32⟩
  | 98 => ⟨S2x45x64x5760, .f32⟩
  | 99 => ⟨S2x45x64x5760, .f32⟩
  | 100 => ⟨S_, .f32⟩
  | 101 => ⟨S_, .f32⟩
  | 102 => ⟨S_, .f32⟩
  | 103 => ⟨S2x45x64x5760, .f32⟩
  | 104 => ⟨S2x45x64x5760, .f32⟩
  | 105 => ⟨S_, .f32⟩
  | 106 => ⟨S2x45x64x5760, .f32⟩
  | 107 => ⟨S2x45x64x5760, .f32⟩
  | 108 => ⟨S2x45x64x5760, .i32⟩
  | 109 => ⟨S2x45x64x5760, .f32⟩
  | 110 => ⟨S2x45x64x5760, .f32⟩
  | 111 => ⟨S2x45x64x5760, .f32⟩
  | 112 => ⟨S2x45x64x5760, .f32⟩
  | 113 => ⟨S2x45x64x5760, .f32⟩
  | 114 => ⟨S2x45x64x5760, .f32⟩
  | 115 => ⟨S2x45x64x5760, .f32⟩
  | 116 => ⟨S_, .f32⟩
  | 117 => ⟨S_, .f32⟩
  | 118 => ⟨S_, .f32⟩
  | 119 => ⟨S2x45x64x5760, .f32⟩
  | 120 => ⟨S2x45x64x5760, .f32⟩
  | 121 => ⟨S_, .f32⟩
  | 122 => ⟨S2x45x5760, .f32⟩
  | 123 => ⟨S_, .f32⟩
  | 124 => ⟨S2x45x5760, .f32⟩
  | 125 => ⟨S2x45x5760, .f32⟩
  | 126 => ⟨S2x5760x45, .f32⟩
  | 127 => ⟨S2x45x1x5760, .f32⟩
  | _ => ⟨S2x5760x2880, .bf16⟩

abbrev hbmTy0_1 (i : Nat) : BufTy := match i % 128 with
  | 0 => ⟨S2x45x5760, .f32⟩
  | 1 => ⟨S2x5760x45, .f32⟩
  | 2 => ⟨S2x45x16x4x5760, .i32⟩
  | 3 => ⟨S2x45x16x1x5760, .i32⟩
  | 4 => ⟨S2x45x16x5760, .i32⟩
  | 5 => ⟨S2x45x16x1x5760, .i32⟩
  | 6 => ⟨S2x45x16x5760, .i32⟩
  | 7 => ⟨S_, .i32⟩
  | 8 => ⟨S2x45x16x5760, .i32⟩
  | 9 => ⟨S2x45x16x5760, .i32⟩
  | 10 => ⟨S2x45x16x5760, .i32⟩
  | 11 => ⟨S2x45x16x1x5760, .i32⟩
  | 12 => ⟨S2x45x16x5760, .i32⟩
  | 13 => ⟨S_, .i32⟩
  | 14 => ⟨S2x45x16x5760, .i32⟩
  | 15 => ⟨S2x45x16x5760, .i32⟩
  | 16 => ⟨S2x45x16x5760, .i32⟩
  | 17 => ⟨S2x45x16x1x5760, .i32⟩
  | 18 => ⟨S2x45x16x5760, .i32⟩
  | 19 => ⟨S_, .i32⟩
  | 20 => ⟨S2x45x16x5760, .i32⟩
  | 21 => ⟨S2x45x16x5760, .i32⟩
  | 22 => ⟨S2x45x16x5760, .i32⟩
  | 23 => ⟨S2x45x16x5760, .i8⟩
  | 24 => ⟨S2x5760x45x16, .i8⟩
  | 25 => ⟨S2x5760x720, .i8⟩
  | 26 => ⟨S2x45x5760, .f32⟩
  | 27 => ⟨S2x5760x45, .f32⟩
  | 28 => ⟨S2x45x5760, .f32⟩
  | 29 => ⟨S2x5760x45, .f32⟩
  | _ => ⟨S2x5760x2880, .bf16⟩

abbrev hbmTy (i : Nat) : BufTy := match i / 128 with
  | 0 => hbmTy0_0 i
  | 1 => hbmTy0_1 i
  | _ => ⟨S2x5760x2880, .bf16⟩

abbrev bufTy : (tb : Table) → Fin (tcTables nBuf tb) → BufTy
  | .hbm, ⟨i, _⟩ => hbmTy i
  | _, _ => ⟨S2x5760x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_cst_4 : Ref sig .tc := ⟨.hbm, 24, rfl⟩
abbrev main_c_5 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev main_while0c_c_20 : Ref sig .tc := ⟨.hbm, 32, rfl⟩
abbrev main_while0c_v65 : Ref sig .tc := ⟨.hbm, 33, rfl⟩
abbrev main_while0b_c_20 : Ref sig .tc := ⟨.hbm, 34, rfl⟩
abbrev main_while0b_v65 : Ref sig .tc := ⟨.hbm, 35, rfl⟩
abbrev main_while0b_v66 : Ref sig .tc := ⟨.hbm, 36, rfl⟩
abbrev main_while0b_v67 : Ref sig .tc := ⟨.hbm, 37, rfl⟩
abbrev main_while0b_v68 : Ref sig .tc := ⟨.hbm, 38, rfl⟩
abbrev main_while0b_v69 : Ref sig .tc := ⟨.hbm, 39, rfl⟩
abbrev main_while0b_v70 : Ref sig .tc := ⟨.hbm, 40, rfl⟩
abbrev main_while0b_cst_21 : Ref sig .tc := ⟨.hbm, 41, rfl⟩
abbrev main_while0b_cst_22 : Ref sig .tc := ⟨.hbm, 42, rfl⟩
abbrev main_while0b_call2_v0 : Ref sig .tc := ⟨.hbm, 43, rfl⟩
abbrev main_while0b_call2_v1 : Ref sig .tc := ⟨.hbm, 44, rfl⟩
abbrev main_while0b_call2_v2 : Ref sig .tc := ⟨.hbm, 45, rfl⟩
abbrev main_while0b_call2_v3 : Ref sig .tc := ⟨.hbm, 46, rfl⟩
abbrev main_while0b_call2_v4 : Ref sig .tc := ⟨.hbm, 47, rfl⟩
abbrev main_while0b_v71 : Ref sig .tc := ⟨.hbm, 48, rfl⟩
abbrev main_while0b_v72 : Ref sig .tc := ⟨.hbm, 49, rfl⟩
abbrev main_while0b_v73 : Ref sig .tc := ⟨.hbm, 50, rfl⟩
abbrev main_while0b_v74 : Ref sig .tc := ⟨.hbm, 51, rfl⟩
abbrev main_while0b_v75 : Ref sig .tc := ⟨.hbm, 52, rfl⟩
abbrev main_while0b_v76 : Ref sig .tc := ⟨.hbm, 53, rfl⟩
abbrev main_while0b_v77 : Ref sig .tc := ⟨.hbm, 54, rfl⟩
abbrev main_while0b_v78 : Ref sig .tc := ⟨.hbm, 55, rfl⟩
abbrev main_while0b_cst_23 : Ref sig .tc := ⟨.hbm, 56, rfl⟩
abbrev main_while0b_v79 : Ref sig .tc := ⟨.hbm, 57, rfl⟩
abbrev main_while0b_cst_24 : Ref sig .tc := ⟨.hbm, 58, rfl⟩
abbrev main_while0b_v80 : Ref sig .tc := ⟨.hbm, 59, rfl⟩
abbrev main_while0b_v81 : Ref sig .tc := ⟨.hbm, 60, rfl⟩
abbrev main_while0b_cst_25 : Ref sig .tc := ⟨.hbm, 61, rfl⟩
abbrev main_while0b_call3_v0 : Ref sig .tc := ⟨.hbm, 62, rfl⟩
abbrev main_while0b_call3_v1 : Ref sig .tc := ⟨.hbm, 63, rfl⟩
abbrev main_while0b_v82 : Ref sig .tc := ⟨.hbm, 64, rfl⟩
abbrev main_while0b_cst_26 : Ref sig .tc := ⟨.hbm, 65, rfl⟩
abbrev main_while0b_cst_27 : Ref sig .tc := ⟨.hbm, 66, rfl⟩
abbrev main_while0b_v83 : Ref sig .tc := ⟨.hbm, 67, rfl⟩
abbrev main_while0b_cst_28 : Ref sig .tc := ⟨.hbm, 68, rfl⟩
abbrev main_while0b_v84 : Ref sig .tc := ⟨.hbm, 69, rfl⟩
abbrev main_while0b_v85 : Ref sig .tc := ⟨.hbm, 70, rfl⟩
abbrev main_while0b_v86 : Ref sig .tc := ⟨.hbm, 71, rfl⟩
abbrev main_while0b_v87 : Ref sig .tc := ⟨.hbm, 72, rfl⟩
abbrev main_while0b_v88 : Ref sig .tc := ⟨.hbm, 73, rfl⟩
abbrev main_while0b_v89 : Ref sig .tc := ⟨.hbm, 74, rfl⟩
abbrev main_while0b_cst_29 : Ref sig .tc := ⟨.hbm, 75, rfl⟩
abbrev main_while0b_v90 : Ref sig .tc := ⟨.hbm, 76, rfl⟩
abbrev main_while0b_v91 : Ref sig .tc := ⟨.hbm, 77, rfl⟩
abbrev main_while0b_v92 : Ref sig .tc := ⟨.hbm, 78, rfl⟩
abbrev main_while0b_v93 : Ref sig .tc := ⟨.hbm, 79, rfl⟩
abbrev main_while0b_v94 : Ref sig .tc := ⟨.hbm, 80, rfl⟩
abbrev main_while0b_v95 : Ref sig .tc := ⟨.hbm, 81, rfl⟩
abbrev main_while0b_v96 : Ref sig .tc := ⟨.hbm, 82, rfl⟩
abbrev main_while0b_cst_30 : Ref sig .tc := ⟨.hbm, 83, rfl⟩
abbrev main_while0b_v97 : Ref sig .tc := ⟨.hbm, 84, rfl⟩
abbrev main_while0b_v98 : Ref sig .tc := ⟨.hbm, 85, rfl⟩
abbrev main_while0b_cst_31 : Ref sig .tc := ⟨.hbm, 86, rfl⟩
abbrev main_while0b_v99 : Ref sig .tc := ⟨.hbm, 87, rfl⟩
abbrev main_while0b_v100 : Ref sig .tc := ⟨.hbm, 88, rfl⟩
abbrev main_while0b_cst_32 : Ref sig .tc := ⟨.hbm, 89, rfl⟩
abbrev main_while0b_cst_33 : Ref sig .tc := ⟨.hbm, 90, rfl⟩
abbrev main_while0b_v101 : Ref sig .tc := ⟨.hbm, 91, rfl⟩
abbrev main_while0b_v102 : Ref sig .tc := ⟨.hbm, 92, rfl⟩
abbrev main_while0b_c_34 : Ref sig .tc := ⟨.hbm, 93, rfl⟩
abbrev main_while0b_v103 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_cst_6 : Ref sig .tc := ⟨.hbm, 100, rfl⟩
abbrev main_cst_7 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_cst_8 : Ref sig .tc := ⟨.hbm, 116, rfl⟩
abbrev main_cst_9 : Ref sig .tc := ⟨.hbm, 117, rfl⟩
abbrev main_v30 : Ref sig .tc := ⟨.hbm, 118, rfl⟩
abbrev main_v31 : Ref sig .tc := ⟨.hbm, 119, rfl⟩
abbrev main_v32 : Ref sig .tc := ⟨.hbm, 120, rfl⟩
abbrev main_cst_10 : Ref sig .tc := ⟨.hbm, 121, rfl⟩
abbrev main_v33 : Ref sig .tc := ⟨.hbm, 122, rfl⟩
abbrev main_cst_11 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_c_12 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_c_13 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_c_14 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩

abbrev nD : Nat := 1
abbrev τ : Topo := Topo.v7x

variable {F : FTy → Type} [FloatOps F]

abbrev main_while0_count : Scf.Loop 32 := ⟨0#32, 20#32, 1#32⟩
-- ==== Proof.KernelLoops.lean ====
/-
  The two counted loops of `Kernel`'s body at frame strength: one trip of each, run once by the symbolic executor.
  Nothing is said of what the loops leave in the buffers they write.
-/
module

public import proofs.«01_k».proof.Proof.Gen.Kernel.Loops
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- A memref's cells on core `c`, held whole at the contents `f`. -/
abbrev ptv (c : Dev nD) {S : Shape} {e : EltTy} (M : Memref sig .tc .vmem S e) (f : BufTy.Contents (Elt F) M.view.ty) : sProp 𝕄 :=
  iprop((M.view.loc (c : Thread nD τ) ↦[M.view.set]{fullShare} f))

/-- The packed scratch as rows of pairs, the view the packing loop stores through. -/
abbrev pairsOf (M : Memref sig .tc .vmem S17664x128 .bf16) (hM : M.IsWhole) : Memref sig .tc .vmem S8832x2x128 .bf16 :=
  M.reshape S8832x2x128 reshapes_S17664x128_S8832x2x128.1 reshapes_S17664x128_S8832x2x128.2 hM.contiguous

/-- The same cells, under either view. -/
theorem ptv_pairs (M : Memref sig .tc .vmem S17664x128 .bf16) (hM : M.IsWhole) (c : Dev nD) :
    (iprop(∃ f7, ptv c M f7) : sProp 𝕄) = iprop(∃ f7, ptv (F := F) c (pairsOf M hM) f7) := by
  have h : (pairsOf M hM).view.set = M.view.set := View.set_reshape _ _
  unfold ptv; rw [h]

/-! The first rows of the packing loop's stores. -/
instance (k : Fin k0_t1_loop.trips) : ClosedOff (k0_off2 k 0#32) := ⟨![0 + k.val, 0, 0], by revert k; decide +kernel⟩
instance (k : Fin k0_t1_loop.trips) : ClosedOff (k0_off2 k 45#32) := ⟨![45 + k.val, 0, 0], by revert k; decide +kernel⟩
instance (k : Fin k0_t1_loop.trips) : ClosedOff (k0_off2 k 90#32) := ⟨![90 + k.val, 0, 0], by revert k; decide +kernel⟩
instance (k : Fin k0_t1_loop.trips) : ClosedOff (k0_off2 k 135#32) := ⟨![135 + k.val, 0, 0], by revert k; decide +kernel⟩
instance (k : Fin k0_t1_loop.trips) : ClosedOff (k0_off2 k 180#32) := ⟨![180 + k.val, 0, 0], by revert k; decide +kernel⟩
instance (k : Fin k0_t1_loop.trips) : ClosedOff (k0_off2 k 225#32) := ⟨![225 + k.val, 0, 0], by revert k; decide +kernel⟩
instance (k : Fin k0_t1_loop.trips) : ClosedOff (k0_off2 k 2208#32) := ⟨![2208 + k.val, 0, 0], by revert k; decide +kernel⟩
instance (k : Fin k0_t1_loop.trips) : ClosedOff (k0_off2 k 2253#32) := ⟨![2253 + k.val, 0, 0], by revert k; decide +kernel⟩
instance (k : Fin k0_t1_loop.trips) : ClosedOff (k0_off2 k 2298#32) := ⟨![2298 + k.val, 0, 0], by revert k; decide +kernel⟩
instance (k : Fin k0_t1_loop.trips) : ClosedOff (k0_off2 k 2343#32) := ⟨![2343 + k.val, 0, 0], by revert k; decide +kernel⟩
instance (k : Fin k0_t1_loop.trips) : ClosedOff (k0_off2 k 2388#32) := ⟨![2388 + k.val, 0, 0], by revert k; decide +kernel⟩
instance (k : Fin k0_t1_loop.trips) : ClosedOff (k0_off2 k 2433#32) := ⟨![2433 + k.val, 0, 0], by revert k; decide +kernel⟩
instance (k : Fin k0_t1_loop.trips) : ClosedOff (k0_off2 k 4416#32) := ⟨![4416 + k.val, 0, 0], by revert k; decide +kernel⟩
instance (k : Fin k0_t1_loop.trips) : ClosedOff (k0_off2 k 4461#32) := ⟨![4461 + k.val, 0, 0], by revert k; decide +kernel⟩
instance (k : Fin k0_t1_loop.trips) : ClosedOff (k0_off2 k 4506#32) := ⟨![4506 + k.val, 0, 0], by revert k; decide +kernel⟩
instance (k : Fin k0_t1_loop.trips) : ClosedOff (k0_off2 k 4551#32) := ⟨![4551 + k.val, 0, 0], by revert k; decide +kernel⟩
instance (k : Fin k0_t1_loop.trips) : ClosedOff (k0_off2 k 4596#32) := ⟨![4596 + k.val, 0, 0], by revert k; decide +kernel⟩
instance (k : Fin k0_t1_loop.trips) : ClosedOff (k0_off2 k 4641#32) := ⟨![4641 + k.val, 0, 0], by revert k; decide +kernel⟩
instance (k : Fin k0_t1_loop.trips) : ClosedOff (k0_off2 k 6624#32) := ⟨![6624 + k.val, 0, 0], by revert k; decide +kernel⟩
instance (k : Fin k0_t1_loop.trips) : ClosedOff (k0_off2 k 6669#32) := ⟨![6669 + k.val, 0, 0], by revert k; decide +kernel⟩
instance (k : Fin k0_t1_loop.trips) : ClosedOff (k0_off2 k 6714#32) := ⟨![6714 + k.val, 0, 0], by revert k; decide +kernel⟩
instance (k : Fin k0_t1_loop.trips) : ClosedOff (k0_off2 k 6759#32) := ⟨![6759 + k.val, 0, 0], by revert k; decide +kernel⟩
instance (k : Fin k0_t1_loop.trips) : ClosedOff (k0_off2 k 6804#32) := ⟨![6804 + k.val, 0, 0], by revert k; decide +kernel⟩
instance (k : Fin k0_t1_loop.trips) : ClosedOff (k0_off2 k 6849#32) := ⟨![6849 + k.val, 0, 0], by revert k; decide +kernel⟩

set_option maxHeartbeats 0 in
/-- The packing loop: it reads the input block and writes the packed scratch. -/
@[sl_loop] def frameInv_t1 (c : Dev nD) (i : grid0.Coords) (arg1 : Memref sig .tc .vmem S2x2880x384 .bf16) (harg1 : arg1.IsWhole) (arg2 : Memref sig .tc .vmem S2x720x384 .i8) (harg2 : arg2.IsWhole) (arg3 : Memref sig .tc .vmem S45x2x384 .f32) (harg3 : arg3.IsWhole) (arg4 : Memref sig .tc .vmem S45x2x384 .f32) (harg4 : arg4.IsWhole) (arg5 : Memref sig .tc .vmem S45x2x384 .f32) (harg5 : arg5.IsWhole) (arg6 : Memref sig .tc .vmem S45x2x384 .f32) (harg6 : arg6.IsWhole) (arg7 : Memref sig .tc .vmem S17664x128 .bf16) (harg7 : arg7.IsWhole) (arg8 : Memref sig .tc .vmem S1024x128 .f32) (harg8 : arg8.IsWhole) (arg9 : Memref sig .tc .vmem S1088x128 .i32) (harg9 : arg9.IsWhole) (arg10 : Memref sig .tc .vmem S4x272x128 .f32) (harg10 : arg10.IsWhole) (X1 : BufTy.Contents (Elt F) arg1.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 where
  inv := fun k _ => iprop(ptv c arg1 X1 ∗ (∃ f7, ptv c arg7 f7))
  step := fun k acc => by
    unfold k0_t1_body
    rw [ptv_pairs arg7 harg7]
    iintro ⟨H1, ⟨%f7, H7⟩⟩
    sl_exec
    sl_step
    isplitl [H1]; · iexact H1
    iexists _; iexact H7

set_option maxHeartbeats 0 in
/-- The main loop: it reads the packed scratch and writes the three others. -/
@[sl_loop] def frameInv_t2 (c : Dev nD) (i : grid0.Coords) (arg1 : Memref sig .tc .vmem S2x2880x384 .bf16) (harg1 : arg1.IsWhole) (arg2 : Memref sig .tc .vmem S2x720x384 .i8) (harg2 : arg2.IsWhole) (arg3 : Memref sig .tc .vmem S45x2x384 .f32) (harg3 : arg3.IsWhole) (arg4 : Memref sig .tc .vmem S45x2x384 .f32) (harg4 : arg4.IsWhole) (arg5 : Memref sig .tc .vmem S45x2x384 .f32) (harg5 : arg5.IsWhole) (arg6 : Memref sig .tc .vmem S45x2x384 .f32) (harg6 : arg6.IsWhole) (arg7 : Memref sig .tc .vmem S17664x128 .bf16) (harg7 : arg7.IsWhole) (arg8 : Memref sig .tc .vmem S1024x128 .f32) (harg8 : arg8.IsWhole) (arg9 : Memref sig .tc .vmem S1088x128 .i32) (harg9 : arg9.IsWhole) (arg10 : Memref sig .tc .vmem S4x272x128 .f32) (harg10 : arg10.IsWhole) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 where
  inv := fun k _ => iprop((∃ f7, ptv c arg7 f7) ∗ (∃ f8, ptv c arg8 f8) ∗ (∃ f9, ptv c arg9 f9) ∗ (∃ f10, ptv c arg10 f10))
  step := fun k acc => by
    have hk : k.val < 17 := Nat.lt_of_lt_of_le k.isLt k0_t2_abs.2.1
    unfold k0_t2_body
    iintro ⟨⟨%f7, H7⟩, ⟨%f8, H8⟩, ⟨%f9, H9⟩, ⟨%f10, H10⟩⟩
    sl_exec
    sl_step
    isplitl [H7]; · iexists _; iexact H7
    isplitl [H8]; · iexists _; iexact H8
    isplitl [H9]; · iexists _; iexact H9
    iexists _; iexact H10

end Cert.Kernel.Hand
end
-- ==== Proof.KernelFrame.lean ====
/-
  The frame of `Kernel`: the body run once through its two loops, the body obligation with the five results
  forgotten, and the launch.
-/
module

public import proofs.«01_k».proof.Proof.KernelLoops
public import proofs.«01_k».proof.Proof.Gen.Kernel.Frame
public import proofs.«01_k».proof.Proof.Gen.Kernel.Skeleton
public import proofs.«01_k».proof.Proof.Gen.Kernel.Points
public import Idealize.ShloMosaic.Lib.Pipeline.FrameSuffix
public import Idealize.ShloMosaic.Lib.Pipeline.FrameBody
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body, run once -/

set_option maxHeartbeats 0 in
/-- The body's triple, for any continuation: the input block is left as found, everything else at some contents. -/
theorem kernelRun (c : Dev nD) (i : grid0.Coords) (arg1 : Memref sig .tc .vmem S2x2880x384 .bf16) (harg1 : arg1.IsWhole) (arg2 : Memref sig .tc .vmem S2x720x384 .i8) (harg2 : arg2.IsWhole) (arg3 : Memref sig .tc .vmem S45x2x384 .f32) (harg3 : arg3.IsWhole) (arg4 : Memref sig .tc .vmem S45x2x384 .f32) (harg4 : arg4.IsWhole) (arg5 : Memref sig .tc .vmem S45x2x384 .f32) (harg5 : arg5.IsWhole) (arg6 : Memref sig .tc .vmem S45x2x384 .f32) (harg6 : arg6.IsWhole) (arg7 : Memref sig .tc .vmem S17664x128 .bf16) (harg7 : arg7.IsWhole) (arg8 : Memref sig .tc .vmem S1024x128 .f32) (harg8 : arg8.IsWhole) (arg9 : Memref sig .tc .vmem S1088x128 .i32) (harg9 : arg9.IsWhole) (arg10 : Memref sig .tc .vmem S4x272x128 .f32) (harg10 : arg10.IsWhole) (x : S2x2880x384.Idx → Elt F .bf16) (Q : PUnit → sProp 𝕄) :
    iprop(owns (c : Thread nD τ) arg1 fullShare x ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg1 fullShare x ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ Q ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10) Q := by
  simp only [cc0__body_eq_skeleton]; unfold cc0__body_skel
  unfold owns
  iintro ⟨⟨%f1, %h1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  sl_exec
  sl_step
  iapply Hk
  isplitl [H1]
  · iexists _; isplitr; swap; · iexact H1
    ipureintro; exact h1
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

/-! ## The proof data and the body obligation -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev sc0 : Memref sig .tc .vmem S17664x128 .bf16 := Memref.whole cc0_scratch0
abbrev sc1 : Memref sig .tc .vmem S1024x128 .f32 := Memref.whole cc0_scratch1
abbrev sc2 : Memref sig .tc .vmem S1088x128 .i32 := Memref.whole cc0_scratch2
abbrev sc3 : Memref sig .tc .vmem S4x272x128 .f32 := Memref.whole cc0_scratch3

/-- The invariant between the points, conjunct by conjunct: the scratch owned at some contents, the generator
    register at some state. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  rw [show (Pipeline.ΦA spec0 c : sProp 𝕄) = iprop(Pipeline.scopedRest (Ix := Unit) (Name := ℕ) (U := UR sig nD τ) (Lvl := ℕ) (Val := Elt F) spec0 c ∗ ∃ r, prngReg c r) from rfl, scopedRest0_eq]; simp only [sc0, sc1, sc2, sc3, owns_whole]; try rfl

/-- The five results are forgotten: a frame says nothing of them. -/
def forgets0 : Fin 6 → Bool := fun w => w != 0

/-- The proof data: the input block is left in place; what the body leaves in the results is unnamed. -/
def fdats (_ : Fin 1) (c : Dev nD) : Dat τ (Elt F) Unit ℕ (UR sig nD τ) ℕ cfg0 c where
  A w := V m c (Pipeline.arrRef spec0 w)
  after w t := match w with
    | 0 => iblk m c 0 t
    | 1 => Pipeline.Dat.unnamed (cfg := cfg0) 1 t
    | 2 => Pipeline.Dat.unnamed (cfg := cfg0) 2 t
    | 3 => Pipeline.Dat.unnamed (cfg := cfg0) 3 t
    | 4 => Pipeline.Dat.unnamed (cfg := cfg0) 4 t
    | 5 => Pipeline.Dat.unnamed (cfg := cfg0) 5 t
  Φ _ := Pipeline.ΦA spec0 c
  q _ := fullShare
  owed _ := 0

theorem fA_eq (c : Dev nD) (w : Fin cfg0.W) : (fdats m 0 c).A w = V m c (Pipeline.arrRef spec0 w) := by dsimp only [fdats]

theorem fbefore (c : Dev nD) (t : Fin cfg0.N) (d) : (fdats m 0 c).before 0 t d = iblk m c 0 t :=
  before0_0_of m (fdats m 0 c) (fA_eq m c 0) (fun t => by dsimp only [fdats]) t d

theorem fafter (c : Dev nD) (t : Fin cfg0.N) : (fdats m 0 c).after 0 t = iblk m c 0 t := by dsimp only [fdats]

def fbodyPre (c : Dev nD) (t : Fin cfg0.N) : sProp 𝕄 :=
  iprop((fdats m 0 c).Φ t.castSucc ∗ (fdats m 0 c).owesAt () t.castSucc
    ∗ (∃ d, owns (c : Thread nD τ) (ms0_0 t) fullShare ((fdats m 0 c).before 0 t d)) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d))
def fbodyPost (c : Dev nD) (t : Fin cfg0.N) : sProp 𝕄 :=
  iprop((fdats m 0 c).Φ t.succ ∗ (fdats m 0 c).owesAt () t.succ
    ∗ owns (c : Thread nD τ) (ms0_0 t) fullShare ((fdats m 0 c).after 0 t) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d))

/-- The body at a point. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore, fafter]
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, PhiA0_eq]
  iintro ⟨⟨⟨S0, S1, S2, S3⟩, Hg⟩, HO, ⟨%d0, W0⟩, W1, W2, W3, W4, W5⟩
  iapply (kernelRun c (grid0.coords t) (ms0_0 t) (hs0_0 t) (ms0_1 t) (hs0_1 t) (ms0_2 t) (hs0_2 t) (ms0_3 t) (hs0_3 t) (ms0_4 t) (hs0_4 t) (ms0_5 t) (hs0_5 t) sc0 (Memref.isWhole_whole _) sc1 (Memref.isWhole_whole _) sc2 (Memref.isWhole_whole _) sc3 (Memref.isWhole_whole _) (iblk m c 0 t) _)
  isplitl [W0]; · iexact W0
  isplitl [W1]; · iexact W1
  isplitl [W2]; · iexact W2
  isplitl [W3]; · iexact W3
  isplitl [W4]; · iexact W4
  isplitl [W5]; · iexact W5
  isplitl [S0]; · iexact S0
  isplitl [S1]; · iexact S1
  isplitl [S2]; · iexact S2
  isplitl [S3]; · iexact S3
  iintro ⟨W0, W1, W2, W3, W4, W5, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [HO]; · iexact HO
  isplitl [W0]; · iexact W0
  isplitl [W1]; · iexact W1
  isplitl [W2]; · iexact W2
  isplitl [W3]; · iexact W3
  isplitl [W4]; · iexact W4
  iexact W5

theorem fdefs₀_row (t : Fin cfg0.N) : defs₀ (F := F) .tc cfg0.body (cfg0.bodyArgs t (cfg0.slots t)) = bodyAt0 t := by
  unfold defs₀; rw [Defs.onTc_tc]

/-- The body obligation with the results forgotten. -/
theorem fbody_obligation (c : Dev nD) :
    BodyObligation (fdats (F := F) m 0 c) (defs₀ (F := F)) Variants.none () Set.univ forgets0 := fun t => by
  rw [bigSep_W0, bigSep_W0, fdefs₀_row]
  exact triple_restated (fsound_body m c t) rfl .rfl fun _ => .rfl

/-! ## The launch -/

/-- The buffers the host lines after the region write. -/
def tailT : Finset (Ref sig .tc) := {main_v2, main_v3, main_v4, main_v5, main_v6}

theorem tailT_writes : ∀ ops ∈ ([hostOps1] : List (List (HloOp τ sig (Elt F)))), ∀ op ∈ ops,
    ∀ b : Ref sig .tc, Proc.devRef .tc b ∈ op.writes → b ∈ tailT := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals
    intro b hb
    simp only [StableHlo.unary_writes, Finset.mem_singleton] at hb
    by_contra hn
    exact StableHlo.devRef_ne_of_ne (fun h : b = _ => hn (by subst h; decide)) hb

set_option backward.isDefEq.respectTransparency.types false in
/-- Every fair execution of @main ends, the argument as launched and every counter at zero. -/
theorem frun_main :
    θ_run defs (onTc (τ := τ) (main (F := F))) (s₀ m ρ)
      (fun r => (∀ c : Dev nD, r.2.mem ((c.tc : Thread nD τ).loc main_arg0) = m ((c.tc : Thread nD τ).loc main_arg0)) ∧ r.2.sem = fun _ => 0) :=
  Pipeline.θ_run_frame_around_T_forget (Q' := _) cfgs (fdats m) (0 : Fin 1) launch0 defs₀ Variants.none forgets0 tailT m ρ main
    (hbody := fun c => (fbody_obligation m c).loose) (hshare := fun c => (fdats m 0 c).share_full fun _ => rfl)
    (howed := fun _ _ => rfl) (V₀ := V0 m) (opss := [hostOps1]) (hsub := sfx_sub) (hfresh := sfx_fresh) (hkeep := sfx_keeps)
    (hT := tailT_writes) (hmain := hmain m Variants.none) (hA := fA_eq m) (hΦ := fun _ _ => rfl)
    (hQ' := fun r h => ⟨fun c => ((h.1 c).2 main_arg0 (Finset.mem_sdiff.mpr ⟨Pipeline.mem_restRefs_of main_arg0 (by decide) (by decide), by decide⟩)).trans (V_main_arg0 m c), h.2⟩)

end Cert.Kernel.Hand
end
-- ==== Proof.KernelIdealViews.lean ====
/-
  The views through which `KernelIdeal`'s loops reach the packed scratch, and the closed forms of the packing loop's offsets.
-/
module

public import proofs.«01_k».proof.Proof.Gen.KernelIdeal.Loops
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref's cells on core `c`, held whole at the contents `f`. -/
abbrev ptv (c : Dev nD) {S : Shape} {e : EltTy} (M : Memref sig .tc .vmem S e) (f : BufTy.Contents (Elt F) M.view.ty) : sProp 𝕄 :=
  iprop((M.view.loc (c : Thread nD τ) ↦[M.view.set]{fullShare} f))

/-- The packed scratch as rows of pairs, the view the packing loop stores through. -/
abbrev pairsOf (M : Memref sig .tc .vmem S17664x128 .bf16) (hM : M.IsWhole) : Memref sig .tc .vmem S8832x2x128 .bf16 :=
  M.reshape S8832x2x128 reshapes_S17664x128_S8832x2x128.1 reshapes_S17664x128_S8832x2x128.2 hM.contiguous

/-- The same cells, under either view. -/
theorem ptv_pairs (M : Memref sig .tc .vmem S17664x128 .bf16) (hM : M.IsWhole) (c : Dev nD) :
    (iprop(∃ f7, ptv c M f7) : sProp 𝕄) = iprop(∃ f7, ptv (F := F) c (pairsOf M hM) f7) := by
  have h : (pairsOf M hM).view.set = M.view.set := View.set_reshape _ _
  unfold ptv; rw [h]

/-! The first rows of the packing loop's stores. -/
instance (k : Fin k0_t1_loop.trips) : ClosedOff (k0_off2 k 0#32) := ⟨![0 + k.val, 0, 0], by revert k; decide +kernel⟩
instance (k : Fin k0_t1_loop.trips) : ClosedOff (k0_off2 k 45#32) := ⟨![45 + k.val, 0, 0], by revert k; decide +kernel⟩
instance (k : Fin k0_t1_loop.trips) : ClosedOff (k0_off2 k 90#32) := ⟨![90 + k.val, 0, 0], by revert k; decide +kernel⟩
instance (k : Fin k0_t1_loop.trips) : ClosedOff (k0_off2 k 135#32) := ⟨![135 + k.val, 0, 0], by revert k; decide +kernel⟩
instance (k : Fin k0_t1_loop.trips) : ClosedOff (k0_off2 k 180#32) := ⟨![180 + k.val, 0, 0], by revert k; decide +kernel⟩
instance (k : Fin k0_t1_loop.trips) : ClosedOff (k0_off2 k 225#32) := ⟨![225 + k.val, 0, 0], by revert k; decide +kernel⟩
instance (k : Fin k0_t1_loop.trips) : ClosedOff (k0_off2 k 2208#32) := ⟨![2208 + k.val, 0, 0], by revert k; decide +kernel⟩
instance (k : Fin k0_t1_loop.trips) : ClosedOff (k0_off2 k 2253#32) := ⟨![2253 + k.val, 0, 0], by revert k; decide +kernel⟩
instance (k : Fin k0_t1_loop.trips) : ClosedOff (k0_off2 k 2298#32) := ⟨![2298 + k.val, 0, 0], by revert k; decide +kernel⟩
instance (k : Fin k0_t1_loop.trips) : ClosedOff (k0_off2 k 2343#32) := ⟨![2343 + k.val, 0, 0], by revert k; decide +kernel⟩
instance (k : Fin k0_t1_loop.trips) : ClosedOff (k0_off2 k 2388#32) := ⟨![2388 + k.val, 0, 0], by revert k; decide +kernel⟩
instance (k : Fin k0_t1_loop.trips) : ClosedOff (k0_off2 k 2433#32) := ⟨![2433 + k.val, 0, 0], by revert k; decide +kernel⟩
instance (k : Fin k0_t1_loop.trips) : ClosedOff (k0_off2 k 4416#32) := ⟨![4416 + k.val, 0, 0], by revert k; decide +kernel⟩
instance (k : Fin k0_t1_loop.trips) : ClosedOff (k0_off2 k 4461#32) := ⟨![4461 + k.val, 0, 0], by revert k; decide +kernel⟩
instance (k : Fin k0_t1_loop.trips) : ClosedOff (k0_off2 k 4506#32) := ⟨![4506 + k.val, 0, 0], by revert k; decide +kernel⟩
instance (k : Fin k0_t1_loop.trips) : ClosedOff (k0_off2 k 4551#32) := ⟨![4551 + k.val, 0, 0], by revert k; decide +kernel⟩
instance (k : Fin k0_t1_loop.trips) : ClosedOff (k0_off2 k 4596#32) := ⟨![4596 + k.val, 0, 0], by revert k; decide +kernel⟩
instance (k : Fin k0_t1_loop.trips) : ClosedOff (k0_off2 k 4641#32) := ⟨![4641 + k.val, 0, 0], by revert k; decide +kernel⟩
instance (k : Fin k0_t1_loop.trips) : ClosedOff (k0_off2 k 6624#32) := ⟨![6624 + k.val, 0, 0], by revert k; decide +kernel⟩
instance (k : Fin k0_t1_loop.trips) : ClosedOff (k0_off2 k 6669#32) := ⟨![6669 + k.val, 0, 0], by revert k; decide +kernel⟩
instance (k : Fin k0_t1_loop.trips) : ClosedOff (k0_off2 k 6714#32) := ⟨![6714 + k.val, 0, 0], by revert k; decide +kernel⟩
instance (k : Fin k0_t1_loop.trips) : ClosedOff (k0_off2 k 6759#32) := ⟨![6759 + k.val, 0, 0], by revert k; decide +kernel⟩
instance (k : Fin k0_t1_loop.trips) : ClosedOff (k0_off2 k 6804#32) := ⟨![6804 + k.val, 0, 0], by revert k; decide +kernel⟩
instance (k : Fin k0_t1_loop.trips) : ClosedOff (k0_off2 k 6849#32) := ⟨![6849 + k.val, 0, 0], by revert k; decide +kernel⟩

end Cert.KernelIdeal.Hand
end
-- ==== Proof.KernelIdealLoops.lean ====
/-
  The two counted loops of `KernelIdeal`'s body at frame strength: one trip of each, run once by the symbolic executor.
  Nothing is said of what the loops leave in the buffers they write.
-/
module

public import proofs.«01_k».proof.Proof.KernelIdealViews
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 0 in
/-- The packing loop: it reads the input block and writes the packed scratch. -/
@[sl_loop] def frameInv_t1 (c : Dev nD) (i : grid0.Coords) (arg1 : Memref sig .tc .vmem S2x2880x384 .bf16) (harg1 : arg1.IsWhole) (arg2 : Memref sig .tc .vmem S2x720x384 .i8) (harg2 : arg2.IsWhole) (arg3 : Memref sig .tc .vmem S45x2x384 .f32) (harg3 : arg3.IsWhole) (arg4 : Memref sig .tc .vmem S45x2x384 .f32) (harg4 : arg4.IsWhole) (arg5 : Memref sig .tc .vmem S45x2x384 .f32) (harg5 : arg5.IsWhole) (arg6 : Memref sig .tc .vmem S45x2x384 .f32) (harg6 : arg6.IsWhole) (arg7 : Memref sig .tc .vmem S17664x128 .bf16) (harg7 : arg7.IsWhole) (arg8 : Memref sig .tc .vmem S1024x128 .f32) (harg8 : arg8.IsWhole) (arg9 : Memref sig .tc .vmem S1088x128 .i32) (harg9 : arg9.IsWhole) (arg10 : Memref sig .tc .vmem S4x272x128 .f32) (harg10 : arg10.IsWhole) (X1 : BufTy.Contents (Elt F) arg1.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 where
  inv := fun k _ => iprop(ptv c arg1 X1 ∗ (∃ f7, ptv c arg7 f7))
  step := fun k acc => by
    unfold k0_t1_body
    rw [ptv_pairs arg7 harg7]
    iintro ⟨H1, ⟨%f7, H7⟩⟩
    sl_exec
    sl_step
    isplitl [H1]; · iexact H1
    iexists _; iexact H7

set_option maxHeartbeats 0 in
/-- The main loop: it reads the packed scratch and writes the three others. -/
@[sl_loop] def frameInv_t2 (c : Dev nD) (i : grid0.Coords) (arg1 : Memref sig .tc .vmem S2x2880x384 .bf16) (harg1 : arg1.IsWhole) (arg2 : Memref sig .tc .vmem S2x720x384 .i8) (harg2 : arg2.IsWhole) (arg3 : Memref sig .tc .vmem S45x2x384 .f32) (harg3 : arg3.IsWhole) (arg4 : Memref sig .tc .vmem S45x2x384 .f32) (harg4 : arg4.IsWhole) (arg5 : Memref sig .tc .vmem S45x2x384 .f32) (harg5 : arg5.IsWhole) (arg6 : Memref sig .tc .vmem S45x2x384 .f32) (harg6 : arg6.IsWhole) (arg7 : Memref sig .tc .vmem S17664x128 .bf16) (harg7 : arg7.IsWhole) (arg8 : Memref sig .tc .vmem S1024x128 .f32) (harg8 : arg8.IsWhole) (arg9 : Memref sig .tc .vmem S1088x128 .i32) (harg9 : arg9.IsWhole) (arg10 : Memref sig .tc .vmem S4x272x128 .f32) (harg10 : arg10.IsWhole) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 where
  inv := fun k _ => iprop((∃ f7, ptv c arg7 f7) ∗ (∃ f8, ptv c arg8 f8) ∗ (∃ f9, ptv c arg9 f9) ∗ (∃ f10, ptv c arg10 f10))
  step := fun k acc => by
    have hk : k.val < 17 := Nat.lt_of_lt_of_le k.isLt k0_t2_abs.2.1
    unfold k0_t2_body
    iintro ⟨⟨%f7, H7⟩, ⟨%f8, H8⟩, ⟨%f9, H9⟩, ⟨%f10, H10⟩⟩
    sl_exec
    sl_step
    isplitl [H7]; · iexists _; iexact H7
    isplitl [H8]; · iexists _; iexact H8
    isplitl [H9]; · iexists _; iexact H9
    iexists _; iexact H10

end Cert.KernelIdeal.Hand
end
-- ==== Proof.KernelIdealFrame.lean ====
/-
  The frame of `KernelIdeal`: the body run once through its two loops, the body obligation with the five results
  forgotten, and the launch.
-/
module

public import proofs.«01_k».proof.Proof.KernelIdealLoops
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameSuffix
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body, run once -/

set_option maxHeartbeats 0 in
/-- The body's triple, for any continuation: the input block is left as found, everything else at some contents. -/
theorem kernelRun (c : Dev nD) (i : grid0.Coords) (arg1 : Memref sig .tc .vmem S2x2880x384 .bf16) (harg1 : arg1.IsWhole) (arg2 : Memref sig .tc .vmem S2x720x384 .i8) (harg2 : arg2.IsWhole) (arg3 : Memref sig .tc .vmem S45x2x384 .f32) (harg3 : arg3.IsWhole) (arg4 : Memref sig .tc .vmem S45x2x384 .f32) (harg4 : arg4.IsWhole) (arg5 : Memref sig .tc .vmem S45x2x384 .f32) (harg5 : arg5.IsWhole) (arg6 : Memref sig .tc .vmem S45x2x384 .f32) (harg6 : arg6.IsWhole) (arg7 : Memref sig .tc .vmem S17664x128 .bf16) (harg7 : arg7.IsWhole) (arg8 : Memref sig .tc .vmem S1024x128 .f32) (harg8 : arg8.IsWhole) (arg9 : Memref sig .tc .vmem S1088x128 .i32) (harg9 : arg9.IsWhole) (arg10 : Memref sig .tc .vmem S4x272x128 .f32) (harg10 : arg10.IsWhole) (x : S2x2880x384.Idx → Elt F .bf16) (Q : PUnit → sProp 𝕄) :
    iprop(owns (c : Thread nD τ) arg1 fullShare x ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg1 fullShare x ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ Q ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10) Q := by
  simp only [cc0__body_eq_skeleton]; unfold cc0__body_skel
  unfold owns
  iintro ⟨⟨%f1, %h1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  sl_exec
  sl_step
  iapply Hk
  isplitl [H1]
  · iexists _; isplitr; swap; · iexact H1
    ipureintro; exact h1
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

/-! ## The proof data and the body obligation -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev sc0 : Memref sig .tc .vmem S17664x128 .bf16 := Memref.whole cc0_scratch0
abbrev sc1 : Memref sig .tc .vmem S1024x128 .f32 := Memref.whole cc0_scratch1
abbrev sc2 : Memref sig .tc .vmem S1088x128 .i32 := Memref.whole cc0_scratch2
abbrev sc3 : Memref sig .tc .vmem S4x272x128 .f32 := Memref.whole cc0_scratch3

/-- The invariant between the points, conjunct by conjunct: the scratch owned at some contents, the generator
    register at some state. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  rw [show (Pipeline.ΦA spec0 c : sProp 𝕄) = iprop(Pipeline.scopedRest (Ix := Unit) (Name := ℕ) (U := UR sig nD τ) (Lvl := ℕ) (Val := Elt F) spec0 c ∗ ∃ r, prngReg c r) from rfl, scopedRest0_eq]; simp only [sc0, sc1, sc2, sc3, owns_whole]; try rfl

/-- The five results are forgotten: a frame says nothing of them. -/
def forgets0 : Fin 6 → Bool := fun w => w != 0

/-- The proof data: the input block is left in place; what the body leaves in the results is unnamed. -/
def fdats (_ : Fin 1) (c : Dev nD) : Dat τ (Elt F) Unit ℕ (UR sig nD τ) ℕ cfg0 c where
  A w := V m c (Pipeline.arrRef spec0 w)
  after w t := match w with
    | 0 => iblk m c 0 t
    | 1 => Pipeline.Dat.unnamed (cfg := cfg0) 1 t
    | 2 => Pipeline.Dat.unnamed (cfg := cfg0) 2 t
    | 3 => Pipeline.Dat.unnamed (cfg := cfg0) 3 t
    | 4 => Pipeline.Dat.unnamed (cfg := cfg0) 4 t
    | 5 => Pipeline.Dat.unnamed (cfg := cfg0) 5 t
  Φ _ := Pipeline.ΦA spec0 c
  q _ := fullShare
  owed _ := 0

theorem fA_eq (c : Dev nD) (w : Fin cfg0.W) : (fdats m 0 c).A w = V m c (Pipeline.arrRef spec0 w) := by dsimp only [fdats]

theorem fbefore (c : Dev nD) (t : Fin cfg0.N) (d) : (fdats m 0 c).before 0 t d = iblk m c 0 t :=
  before0_0_of m (fdats m 0 c) (fA_eq m c 0) (fun t => by dsimp only [fdats]) t d

theorem fafter (c : Dev nD) (t : Fin cfg0.N) : (fdats m 0 c).after 0 t = iblk m c 0 t := by dsimp only [fdats]

def fbodyPre (c : Dev nD) (t : Fin cfg0.N) : sProp 𝕄 :=
  iprop((fdats m 0 c).Φ t.castSucc ∗ (fdats m 0 c).owesAt () t.castSucc
    ∗ (∃ d, owns (c : Thread nD τ) (ms0_0 t) fullShare ((fdats m 0 c).before 0 t d)) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d))
def fbodyPost (c : Dev nD) (t : Fin cfg0.N) : sProp 𝕄 :=
  iprop((fdats m 0 c).Φ t.succ ∗ (fdats m 0 c).owesAt () t.succ
    ∗ owns (c : Thread nD τ) (ms0_0 t) fullShare ((fdats m 0 c).after 0 t) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d))

/-- The body at a point. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore, fafter]
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, PhiA0_eq]
  iintro ⟨⟨⟨S0, S1, S2, S3⟩, Hg⟩, HO, ⟨%d0, W0⟩, W1, W2, W3, W4, W5⟩
  iapply (kernelRun c (grid0.coords t) (ms0_0 t) (hs0_0 t) (ms0_1 t) (hs0_1 t) (ms0_2 t) (hs0_2 t) (ms0_3 t) (hs0_3 t) (ms0_4 t) (hs0_4 t) (ms0_5 t) (hs0_5 t) sc0 (Memref.isWhole_whole _) sc1 (Memref.isWhole_whole _) sc2 (Memref.isWhole_whole _) sc3 (Memref.isWhole_whole _) (iblk m c 0 t) _)
  isplitl [W0]; · iexact W0
  isplitl [W1]; · iexact W1
  isplitl [W2]; · iexact W2
  isplitl [W3]; · iexact W3
  isplitl [W4]; · iexact W4
  isplitl [W5]; · iexact W5
  isplitl [S0]; · iexact S0
  isplitl [S1]; · iexact S1
  isplitl [S2]; · iexact S2
  isplitl [S3]; · iexact S3
  iintro ⟨W0, W1, W2, W3, W4, W5, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [HO]; · iexact HO
  isplitl [W0]; · iexact W0
  isplitl [W1]; · iexact W1
  isplitl [W2]; · iexact W2
  isplitl [W3]; · iexact W3
  isplitl [W4]; · iexact W4
  iexact W5

theorem fdefs₀_row (t : Fin cfg0.N) : defs₀ (F := F) .tc cfg0.body (cfg0.bodyArgs t (cfg0.slots t)) = bodyAt0 t := by
  unfold defs₀; rw [Defs.onTc_tc]

/-- The body obligation with the results forgotten. -/
theorem fbody_obligation (c : Dev nD) :
    BodyObligation (fdats (F := F) m 0 c) (defs₀ (F := F)) Variants.none () Set.univ forgets0 := fun t => by
  rw [bigSep_W0, bigSep_W0, fdefs₀_row]
  exact triple_restated (fsound_body m c t) rfl .rfl fun _ => .rfl

/-! ## The launch -/

/-- The buffers the host lines after the region write. -/
def tailT : Finset (Ref sig .tc) := {main_v2, main_v3, main_v4, main_v5, main_v6}

theorem tailT_writes : ∀ ops ∈ ([hostOps1] : List (List (HloOp τ sig (Elt F)))), ∀ op ∈ ops,
    ∀ b : Ref sig .tc, Proc.devRef .tc b ∈ op.writes → b ∈ tailT := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals
    intro b hb
    simp only [StableHlo.unary_writes, Finset.mem_singleton] at hb
    by_contra hn
    exact StableHlo.devRef_ne_of_ne (fun h : b = _ => hn (by subst h; decide)) hb

set_option backward.isDefEq.respectTransparency.types false in
/-- Every fair execution of @main ends, the argument as launched and every counter at zero. -/
theorem frun_main :
    θ_run defs (onTc (τ := τ) (main (F := F))) (s₀ m ρ)
      (fun r => (∀ c : Dev nD, r.2.mem ((c.tc : Thread nD τ).loc main_arg0) = m ((c.tc : Thread nD τ).loc main_arg0)) ∧ r.2.sem = fun _ => 0) :=
  Pipeline.θ_run_frame_around_T_forget (Q' := _) cfgs (fdats m) (0 : Fin 1) launch0 defs₀ Variants.none forgets0 tailT m ρ main
    (hbody := fun c => (fbody_obligation m c).loose) (hshare := fun c => (fdats m 0 c).share_full fun _ => rfl)
    (howed := fun _ _ => rfl) (V₀ := V0 m) (opss := [hostOps1]) (hsub := sfx_sub) (hfresh := sfx_fresh) (hkeep := sfx_keeps)
    (hT := tailT_writes) (hmain := hmain m Variants.none) (hA := fA_eq m) (hΦ := fun _ _ => rfl)
    (hQ' := fun r h => ⟨fun c => ((h.1 c).2 main_arg0 (Finset.mem_sdiff.mpr ⟨Pipeline.mem_restRefs_of main_arg0 (by decide) (by decide), by decide⟩)).trans (V_main_arg0 m c), h.2⟩)

end Cert.KernelIdeal.Hand
end
-- ==== Proof.RefFrame.lean ====
/-
  The frame of the reference: a program of host operations and one counted loop. It ends, no operation writes its
  argument, and it declares no semaphore.
-/
module

public import proofs.«01_k».proof.Proof.Gen.ReferenceIdeal.Run
public import Idealize.ShloMosaic.Lib.Quiescent

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

theorem keep_pre (V : Valuation τ sig (Elt F)) : afterL preI V (Proc.devRef .tc main_arg0) = V (Proc.devRef .tc main_arg0) := by
  simp only [preI, afterL_cons, afterL_nil]
  rw [after_of_writes_sub hostOps0_2 _ hostOps0_2_writes (by decide), after_of_writes_sub hostOps0_1 _ hostOps0_1_writes (by decide),
    after_of_writes_sub hostOps0 _ hostOps0_writes (by decide)]

theorem keep_cond (V : Valuation τ sig (Elt F)) : after condOps V (Proc.devRef .tc main_arg0) = V (Proc.devRef .tc main_arg0) :=
  after_of_writes_sub condOps _ condOps_writes (by decide)

theorem keep_body (V : Valuation τ sig (Elt F)) : afterL bodyI V (Proc.devRef .tc main_arg0) = V (Proc.devRef .tc main_arg0) := by
  simp only [bodyI, afterL_cons, afterL_nil]
  rw [after_of_writes_sub while0Ops0_6 _ while0Ops0_6_writes (by decide), after_of_writes_sub while0Ops0_5 _ while0Ops0_5_writes (by decide),
    after_of_writes_sub while0Ops0_4 _ while0Ops0_4_writes (by decide), after_of_writes_sub while0Ops0_3 _ while0Ops0_3_writes (by decide),
    after_of_writes_sub while0Ops0_2 _ while0Ops0_2_writes (by decide), after_of_writes_sub while0Ops0_1 _ while0Ops0_1_writes (by decide),
    after_of_writes_sub while0Ops0 _ while0Ops0_writes (by decide)]

theorem keep_post (V : Valuation τ sig (Elt F)) : afterL postI V (Proc.devRef .tc main_arg0) = V (Proc.devRef .tc main_arg0) := by
  simp only [postI, afterL_cons, afterL_nil]
  rw [after_unwritten (ops := hostOps0_7) [main_v22, main_v23, main_v24, main_v25, main_v26, main_v27, main_v28, main_v29, main_cst_8, main_cst_9, main_v30, main_v31, main_v32, main_cst_10, main_v33, main_cst_11, main_v34, main_v35, main_v36, main_v37, main_v38, main_v39, main_v40, main_v41, main_v42, main_v43, main_v44, main_c_12, main_v45, main_v46, main_v47, main_v48, main_v49, main_c_13, main_v50, main_v51, main_v52, main_v53, main_v54, main_c_14, main_v55, main_v56, main_v57, main_v58, main_v59, main_v60, main_v61, main_v62, main_v63, main_v64] rfl (by decide),
    after_unwritten (ops := hostOps0_6) [main_call5_v0, main_call5_v1, main_call5_v2, main_call5_v3, main_call5_v4, main_v21] rfl (by decide),
    after_unwritten (ops := hostOps0_5) [main_cst_6, main_cst_7] rfl (by decide),
    after_unwritten (ops := hostOps0_4) [main_v20] rfl (by decide),
    after_unwritten (ops := hostOps0_3) [main_v16, main_v17, main_v18, main_v19] rfl (by decide)]

theorem keep_atTrip (c : Dev nD) : ∀ k, atTrip condOps bodyI (entryContents preI m) k c (Proc.devRef .tc main_arg0) = m (c, Proc.devRef .tc main_arg0)
  | 0 => keep_pre _
  | k + 1 => by rw [atTrip_succ, keep_body, keep_cond, keep_atTrip c k]

theorem arg0_eq (c : Dev nD) : finalContents condOps preI bodyI postI 20 m c (Proc.devRef .tc main_arg0) = m (c, Proc.devRef .tc main_arg0) := by
  exact (keep_post _).trans ((keep_cond _).trans (keep_atTrip m c 20))

/-- Every fair execution of the reference ends, its argument as launched and every counter at zero. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run _ _ _).mono (fun r h => ⟨fun c => (h c main_arg0 rfl).trans (arg0_eq m c), sem_eq_zero_of_no_sems rfl _⟩) (run_fold m ρ)

end Cert.ReferenceIdeal.Hand

end
-- ==== Proof.RefEntry.lean ====
/-
  The reference before its loop: the members in groups, their least and greatest, the scale and the starting zero point.
-/
module

public import proofs.«01_k».proof.Proof.RefFrame
public import Idealize.ShloMosaic.Lib.Pipeline.ValueKit

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

variable {F : FTy → Type} [FloatOps F]

/-- The members, group by group. -/
def rW (X : S2x5760x2880.Idx → F .bf16) : S2x45x64x5760.Idx → F .f32 :=
  extf .f32 (transpose S2x45x64x5760 [0, 2, 3, 1] (shapeCast S2x5760x45x64 X shapeCasts_S2x5760x2880_S2x5760x45x64) transposes_S2x5760x45x64_S2x45x64x5760_0_2_3_1) bitsLt_bf16_f32

/-- The least and the greatest member of every group. -/
def rLo (X : S2x5760x2880.Idx → F .bf16) : S2x45x1x5760.Idx → F .f32 :=
  broadcastInDim S2x45x1x5760 ![0, 1, 3] bcast_S2x45x5760_S2x45x1x5760_0_1_3 (Host.reduce FloatOps.minimumf (rW X) (constant S_ .f32 0x7F800000#32) reducesTo_S2x45x64x5760_S2x45x5760_d2 h_S_)

def rHi (X : S2x5760x2880.Idx → F .bf16) : S2x45x1x5760.Idx → F .f32 :=
  broadcastInDim S2x45x1x5760 ![0, 1, 3] bcast_S2x45x5760_S2x45x1x5760_0_1_3 (Host.reduce FloatOps.maximumf (rW X) (constant S_ .f32 0xFF800000#32) reducesTo_S2x45x64x5760_S2x45x5760_d2 h_S_)

/-- The scale. -/
def rS (X : S2x5760x2880.Idx → F .bf16) : S2x45x1x5760.Idx → F .f32 :=
  select (cmpf .oeq (rHi X) (rLo X)) (broadcastInDim S2x45x1x5760 ![] bcast_S_S2x45x1x5760 (constant S_ .f32 0x3F800000#32))
    (Host.divf (subf (rHi X) (rLo X)) (broadcastInDim S2x45x1x5760 ![] bcast_S_S2x45x1x5760 (constant S_ .f32 0x40400000#32)))

/-- The starting zero point. -/
def rZ0 (X : S2x5760x2880.Idx → F .bf16) : S2x45x1x5760.Idx → F .f32 :=
  Host.divf (subf (broadcastInDim S2x45x1x5760 ![] bcast_S_S2x45x1x5760 (constant S_ .f32 0x00000000#32)) (rLo X)) (rS X)

variable (V : Valuation τ sig (Elt F))

theorem ops0_v2 : after hostOps0 V (no_index (Proc.devRef .tc main_v2)) = rW (V (Proc.devRef .tc main_arg0)) := by
  unfold rW; after_results <;> rfl
theorem ops0_v4 : after hostOps0 V (no_index (Proc.devRef .tc main_v4)) = rLo (V (Proc.devRef .tc main_arg0)) := by
  unfold rLo rW; after_results <;> rfl
theorem ops0_v6 : after hostOps0 V (no_index (Proc.devRef .tc main_v6)) = rHi (V (Proc.devRef .tc main_arg0)) := by
  unfold rHi rW; after_results <;> rfl
theorem ops0_v7 : after hostOps0 V (no_index (Proc.devRef .tc main_v7)) = cmpf .oeq (rHi (V (Proc.devRef .tc main_arg0))) (rLo (V (Proc.devRef .tc main_arg0))) := by
  unfold rHi rLo rW; after_results <;> rfl
theorem ops0_v10 : after hostOps0 V (no_index (Proc.devRef .tc main_v10)) = Host.divf (subf (rHi (V (Proc.devRef .tc main_arg0))) (rLo (V (Proc.devRef .tc main_arg0)))) (broadcastInDim S2x45x1x5760 ![] bcast_S_S2x45x1x5760 (constant S_ .f32 0x40400000#32)) := by
  unfold rHi rLo rW; after_results <;> rfl
theorem ops0_cst2 : after hostOps0 V (no_index (Proc.devRef .tc main_cst_2)) = constant S_ .f32 0x3F800000#32 := by
  after_results <;> rfl

theorem ops1_v11 : after hostOps0_1 V (no_index (Proc.devRef .tc main_v11)) = select (V (Proc.devRef .tc main_v7)) (broadcastInDim S2x45x1x5760 ![] bcast_S_S2x45x1x5760 (id (V (Proc.devRef .tc main_cst_2)))) (V (Proc.devRef .tc main_v10)) := by
  after_results <;> rfl
theorem ops1_keep (r : Ref sig .tc) (h : r ∉ hostOps0_1_W) : after hostOps0_1 V (Proc.devRef .tc r) = V (Proc.devRef .tc r) :=
  after_of_writes_sub hostOps0_1 _ hostOps0_1_writes h
theorem ops2_keep (r : Ref sig .tc) (h : r ∉ hostOps0_2_W) : after hostOps0_2 V (Proc.devRef .tc r) = V (Proc.devRef .tc r) :=
  after_of_writes_sub hostOps0_2 _ hostOps0_2_writes h

theorem ops2_v14 : after hostOps0_2 V (no_index (Proc.devRef .tc main_v14)) = Host.divf (subf (broadcastInDim S2x45x1x5760 ![] bcast_S_S2x45x1x5760 (constant S_ .f32 0x00000000#32)) (V (Proc.devRef .tc main_v4))) (V (Proc.devRef .tc main_v11)) := by
  after_results <;> rfl
theorem ops2_v15_0 : after hostOps0_2 V (no_index (Proc.devRef .tc main_v15_0)) = V (Proc.devRef .tc main_v2) := by
  after_results; rfl
theorem ops2_v15_1 : after hostOps0_2 V (no_index (Proc.devRef .tc main_v15_1)) = V (Proc.devRef .tc main_v11) := by
  after_results; rfl
theorem ops2_v15_4 : after hostOps0_2 V (no_index (Proc.devRef .tc main_v15_4)) = Host.divf (subf (broadcastInDim S2x45x1x5760 ![] bcast_S_S2x45x1x5760 (constant S_ .f32 0x00000000#32)) (V (Proc.devRef .tc main_v4))) (V (Proc.devRef .tc main_v11)) := by
  after_results; rfl
theorem ops2_v15_5 : after hostOps0_2 V (no_index (Proc.devRef .tc main_v15_5)) = constant S_ .f32 0x41200000#32 := by
  after_results; rfl

theorem pre_v11' : after hostOps0_1 (after hostOps0 V) (Proc.devRef .tc main_v11) = rS (V (Proc.devRef .tc main_arg0)) := by
  rw [ops1_v11, ops0_v7, ops0_v10, ops0_cst2]; rfl
theorem pre_v11 : afterL preI V (Proc.devRef .tc main_v11) = rS (V (Proc.devRef .tc main_arg0)) := by
  simp only [preI, afterL_cons, afterL_nil]
  rw [ops2_keep _ main_v11 (by decide), pre_v11']
theorem pre_v2 : afterL preI V (Proc.devRef .tc main_v2) = rW (V (Proc.devRef .tc main_arg0)) := by
  simp only [preI, afterL_cons, afterL_nil]
  rw [ops2_keep _ main_v2 (by decide), ops1_keep _ main_v2 (by decide), ops0_v2]
theorem pre_v14 : afterL preI V (Proc.devRef .tc main_v14) = rZ0 (V (Proc.devRef .tc main_arg0)) := by
  simp only [preI, afterL_cons, afterL_nil]
  rw [ops2_v14, pre_v11', ops1_keep _ main_v4 (by decide), ops0_v4]; rfl
theorem pre_v15_0 : afterL preI V (Proc.devRef .tc main_v15_0) = rW (V (Proc.devRef .tc main_arg0)) := by
  simp only [preI, afterL_cons, afterL_nil]
  rw [ops2_v15_0, ops1_keep _ main_v2 (by decide), ops0_v2]
theorem pre_v15_1 : afterL preI V (Proc.devRef .tc main_v15_1) = rS (V (Proc.devRef .tc main_arg0)) := by
  simp only [preI, afterL_cons, afterL_nil]
  rw [ops2_v15_1, pre_v11']
theorem pre_v15_4 : afterL preI V (Proc.devRef .tc main_v15_4) = rZ0 (V (Proc.devRef .tc main_arg0)) := by
  simp only [preI, afterL_cons, afterL_nil]
  rw [ops2_v15_4, pre_v11', ops1_keep _ main_v4 (by decide), ops0_v4]; rfl
theorem pre_v15_5 : afterL preI V (Proc.devRef .tc main_v15_5) = constant S_ .f32 0x41200000#32 := by
  simp only [preI, afterL_cons, afterL_nil]
  rw [ops2_v15_5]

end Cert.ReferenceIdeal.Hand
end
-- ==== Proof.RefPost.lean ====
/-
  The reference after its loop: each of its five results as a function of what the loop leaves.
-/
module

public import proofs.«01_k».proof.Proof.RefEntry

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

variable {F : FTy → Type} [FloatOps F]

/-- A number for every group, on every member. -/
abbrev onMembers (a : S2x45x1x5760.Idx → F .f32) : S2x45x64x5760.Idx → F .f32 :=
  broadcastInDim S2x45x64x5760 ![0, 1, 2, 3] bcast_S2x45x1x5760_S2x45x64x5760_0_1_2_3 a

/-- The codes of members `w` under scales `s` and zero points `z`, as numbers and as integers. -/
def rQ (w : S2x45x64x5760.Idx → F .f32) (s z : S2x45x1x5760.Idx → F .f32) : S2x45x64x5760.Idx → F .f32 :=
  minimumf (broadcastInDim S2x45x64x5760 ![] bcast_S_S2x45x64x5760 (id (constant S_ .f32 0x40400000#32)))
    (maximumf (broadcastInDim S2x45x64x5760 ![] bcast_S_S2x45x64x5760 (id (constant S_ .f32 0x00000000#32)))
      (Host.roundeven (addf (Host.divf w (onMembers s)) (onMembers z))))

def rC (w : S2x45x64x5760.Idx → F .f32) (s z : S2x45x1x5760.Idx → F .f32) : S2x45x64x5760.Idx → BitVec 32 := fptosi 32 (rQ w s z)

/-- The mean of the errors' norms. -/
def rLp (w : S2x45x64x5760.Idx → F .f32) (s z : S2x45x1x5760.Idx → F .f32) : S2x5760x45.Idx → F .f32 :=
  transpose S2x5760x45 [0, 2, 1] (Host.divf (Host.reduceAdd
    (Host.powf (Host.absf (subf w (mulf (subf (sitofp .f32 (rC w s z)) (onMembers z)) (onMembers s))))
      (broadcastInDim S2x45x64x5760 ![] bcast_S_S2x45x64x5760 (Host.divf (constant S_ .f32 0x40E00000#32) (constant S_ .f32 0x41200000#32))))
    (constant S_ .f32 0x00000000#32) reducesTo_S2x45x64x5760_S2x45x5760_d2 h_S_)
    (broadcastInDim S2x45x5760 ![] bcast_S_S2x45x5760 (constant S_ .f32 0x42800000#32))) transposes_S2x45x5760_S2x5760x45_0_2_1

/-- A number for every group, in the order of the results. -/
def rGroup (a : S2x45x1x5760.Idx → F .f32) : S2x5760x45.Idx → F .f32 :=
  transpose S2x5760x45 [0, 2, 1] (shapeCast S2x45x5760 a shapeCasts_S2x45x1x5760_S2x45x5760) transposes_S2x45x5760_S2x5760x45_0_2_1

/-- The codes in fours: `c` of every four. -/
def rFour (C : S2x45x64x5760.Idx → BitVec 32) (c : Fin 4) : S2x45x16x5760.Idx → BitVec 32 :=
  match c with
  | 0 => shapeCast S2x45x16x5760 (extractStridedSlice S2x45x16x1x5760 ![0, 0, 0, 0, 0] (shapeCast S2x45x16x4x5760 C shapeCasts_S2x45x64x5760_S2x45x16x4x5760) slices_S2x45x16x4x5760_S2x45x16x1x5760_0_0_0_0_0) shapeCasts_S2x45x16x1x5760_S2x45x16x5760
  | 1 => shapeCast S2x45x16x5760 (extractStridedSlice S2x45x16x1x5760 ![0, 0, 0, 1, 0] (shapeCast S2x45x16x4x5760 C shapeCasts_S2x45x64x5760_S2x45x16x4x5760) slices_S2x45x16x4x5760_S2x45x16x1x5760_0_0_0_1_0) shapeCasts_S2x45x16x1x5760_S2x45x16x5760
  | 2 => shapeCast S2x45x16x5760 (extractStridedSlice S2x45x16x1x5760 ![0, 0, 0, 2, 0] (shapeCast S2x45x16x4x5760 C shapeCasts_S2x45x64x5760_S2x45x16x4x5760) slices_S2x45x16x4x5760_S2x45x16x1x5760_0_0_0_2_0) shapeCasts_S2x45x16x1x5760_S2x45x16x5760
  | 3 => shapeCast S2x45x16x5760 (extractStridedSlice S2x45x16x1x5760 ![0, 0, 0, 3, 0] (shapeCast S2x45x16x4x5760 C shapeCasts_S2x45x64x5760_S2x45x16x4x5760) slices_S2x45x16x4x5760_S2x45x16x1x5760_0_0_0_3_0) shapeCasts_S2x45x16x1x5760_S2x45x16x5760

/-- The packed codes. -/
def rPack (C : S2x45x64x5760.Idx → BitVec 32) : S2x5760x720.Idx → BitVec 8 :=
  shapeCast S2x5760x720 (transpose S2x5760x45x16 [0, 3, 1, 2] (trunci 8
    (ori (ori (ori (rFour C 0) (Host.shli (rFour C 1) (broadcastInDim S2x45x16x5760 ![] bcast_S_S2x45x16x5760 (constantI S_ 32 2#32))))
      (Host.shli (rFour C 2) (broadcastInDim S2x45x16x5760 ![] bcast_S_S2x45x16x5760 (constantI S_ 32 4#32))))
      (Host.shli (rFour C 3) (broadcastInDim S2x45x16x5760 ![] bcast_S_S2x45x16x5760 (constantI S_ 32 6#32)))) natLt_8_32)
    transposes_S2x45x16x5760_S2x5760x45x16_0_3_1_2) shapeCasts_S2x5760x45x16_S2x5760x720

variable (V : Valuation τ sig (Elt F))

/-- The operations up to the codes. -/
abbrev toCodes : Valuation τ sig (Elt F) := after hostOps0_6 (after hostOps0_5 (after hostOps0_4 (after hostOps0_3 V)))

theorem toCodes_keep (r : Ref sig .tc) (h3 : r ∉ [main_v16, main_v17, main_v18, main_v19]) (h4 : r ∉ [main_v20]) (h5 : r ∉ [main_cst_6, main_cst_7])
    (h6 : r ∉ [main_call5_v0, main_call5_v1, main_call5_v2, main_call5_v3, main_call5_v4, main_v21]) :
    toCodes V (Proc.devRef .tc r) = V (Proc.devRef .tc r) := by
  rw [toCodes, after_unwritten (ops := hostOps0_6) [main_call5_v0, main_call5_v1, main_call5_v2, main_call5_v3, main_call5_v4, main_v21] rfl h6,
    after_unwritten (ops := hostOps0_5) [main_cst_6, main_cst_7] rfl h5,
    after_unwritten (ops := hostOps0_4) [main_v20] rfl h4,
    after_unwritten (ops := hostOps0_3) [main_v16, main_v17, main_v18, main_v19] rfl h3]

theorem ops6_v21 : after hostOps0_6 V (no_index (Proc.devRef .tc main_v21)) = minimumf (broadcastInDim S2x45x64x5760 ![] bcast_S_S2x45x64x5760 (id (V (Proc.devRef .tc main_cst_7))))
    (maximumf (broadcastInDim S2x45x64x5760 ![] bcast_S_S2x45x64x5760 (id (V (Proc.devRef .tc main_cst_6)))) (V (Proc.devRef .tc main_v20))) := by
  after_results <;> rfl
theorem ops5_cst6 : after hostOps0_5 V (no_index (Proc.devRef .tc main_cst_6)) = constant S_ .f32 0x00000000#32 := by
  after_results <;> rfl
theorem ops5_cst7 : after hostOps0_5 V (no_index (Proc.devRef .tc main_cst_7)) = constant S_ .f32 0x40400000#32 := by
  after_results <;> rfl
theorem ops4_v20 : after hostOps0_4 V (no_index (Proc.devRef .tc main_v20)) = Host.roundeven (V (Proc.devRef .tc main_v19)) := by
  after_results <;> rfl
theorem ops3_v19 : after hostOps0_3 V (no_index (Proc.devRef .tc main_v19)) = addf (Host.divf (V (Proc.devRef .tc main_v2)) (onMembers (V (Proc.devRef .tc main_v11)))) (onMembers (V (Proc.devRef .tc main_v15_4))) := by
  after_results <;> rfl

theorem toCodes_v21 : toCodes V (Proc.devRef .tc main_v21) = rQ (V (Proc.devRef .tc main_v2)) (V (Proc.devRef .tc main_v11)) (V (Proc.devRef .tc main_v15_4)) := by
  rw [toCodes, ops6_v21, ops5_cst6, ops5_cst7, after_unwritten (ops := hostOps0_5) (r := main_v20) [main_cst_6, main_cst_7] rfl (by decide), ops4_v20, ops3_v19]
  rfl

theorem ops7_v62 : after hostOps0_7 V (no_index (Proc.devRef .tc main_v62)) = rGroup (V (Proc.devRef .tc main_v11)) := by
  after_results <;> rfl
theorem ops7_v64 : after hostOps0_7 V (no_index (Proc.devRef .tc main_v64)) = rGroup (V (Proc.devRef .tc main_v15_4)) := by
  after_results <;> rfl
theorem ops7_v39 : after hostOps0_7 V (no_index (Proc.devRef .tc main_v39)) = rGroup (subf (V (Proc.devRef .tc main_v15_4)) (V (Proc.devRef .tc main_v14))) := by
  after_results <;> rfl
theorem ops7_v36 : after hostOps0_7 V (no_index (Proc.devRef .tc main_v36)) =
  transpose S2x5760x45 [0, 2, 1] (Host.divf (Host.reduceAdd
    (Host.powf (Host.absf (subf (V (Proc.devRef .tc main_v2)) (mulf (subf (sitofp .f32 (fptosi 32 (V (Proc.devRef .tc main_v21)))) (onMembers (V (Proc.devRef .tc main_v15_4)))) (onMembers (V (Proc.devRef .tc main_v11))))))
      (broadcastInDim S2x45x64x5760 ![] bcast_S_S2x45x64x5760 (Host.divf (constant S_ .f32 0x40E00000#32) (constant S_ .f32 0x41200000#32))))
    (constant S_ .f32 0x00000000#32) reducesTo_S2x45x64x5760_S2x45x5760_d2 h_S_)
    (broadcastInDim S2x45x5760 ![] bcast_S_S2x45x5760 (constant S_ .f32 0x42800000#32))) transposes_S2x45x5760_S2x5760x45_0_2_1 := by
  after_results <;> rfl
theorem ops7_v60 : after hostOps0_7 V (no_index (Proc.devRef .tc main_v60)) = rPack (fptosi 32 (V (Proc.devRef .tc main_v21))) := by
  after_results <;> rfl

/-! ## The results from what the loop leaves -/

theorem post_v62 : afterL postI V (Proc.devRef .tc main_v62) = rGroup (V (Proc.devRef .tc main_v11)) := by
  simp only [postI, afterL_cons, afterL_nil]
  rw [ops7_v62]; exact congrArg rGroup (toCodes_keep V main_v11 (by decide) (by decide) (by decide) (by decide))
theorem post_v64 : afterL postI V (Proc.devRef .tc main_v64) = rGroup (V (Proc.devRef .tc main_v15_4)) := by
  simp only [postI, afterL_cons, afterL_nil]
  rw [ops7_v64]; exact congrArg rGroup (toCodes_keep V main_v15_4 (by decide) (by decide) (by decide) (by decide))
theorem post_v39 : afterL postI V (Proc.devRef .tc main_v39) = rGroup (subf (V (Proc.devRef .tc main_v15_4)) (V (Proc.devRef .tc main_v14))) := by
  simp only [postI, afterL_cons, afterL_nil]
  rw [ops7_v39]
  have h1 := toCodes_keep V main_v15_4 (by decide) (by decide) (by decide) (by decide)
  have h2 := toCodes_keep V main_v14 (by decide) (by decide) (by decide) (by decide)
  rw [toCodes] at h1 h2
  rw [h1, h2]
theorem post_v36 : afterL postI V (Proc.devRef .tc main_v36) = rLp (V (Proc.devRef .tc main_v2)) (V (Proc.devRef .tc main_v11)) (V (Proc.devRef .tc main_v15_4)) := by
  simp only [postI, afterL_cons, afterL_nil]
  rw [ops7_v36]
  have h1 := toCodes_keep V main_v15_4 (by decide) (by decide) (by decide) (by decide)
  have h2 := toCodes_keep V main_v11 (by decide) (by decide) (by decide) (by decide)
  have h3 := toCodes_keep V main_v2 (by decide) (by decide) (by decide) (by decide)
  have h4 := toCodes_v21 V
  rw [toCodes] at h1 h2 h3 h4
  rw [h1, h2, h3, h4]; rfl
theorem post_v60 : afterL postI V (Proc.devRef .tc main_v60) = rPack (rC (V (Proc.devRef .tc main_v2)) (V (Proc.devRef .tc main_v11)) (V (Proc.devRef .tc main_v15_4))) := by
  simp only [postI, afterL_cons, afterL_nil]
  rw [ops7_v60]
  have h4 := toCodes_v21 V
  rw [toCodes] at h4
  rw [h4]; rfl

/-! ## What the loop keeps -/

theorem loop_keep (m : (ℓ : Loc nD τ sig) → Buf (Elt F) ℓ) (c : Dev nD) (r : Ref sig .tc)
    (hc : r ∉ condOps_W) (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) (h6 : r ∉ while0Ops0_6_W) :
    ∀ k, atTrip condOps bodyI (entryContents preI m) k c (Proc.devRef .tc r) = entryContents preI m c (Proc.devRef .tc r)
  | 0 => rfl
  | k + 1 => by
    rw [atTrip_succ]
    simp only [bodyI, afterL_cons, afterL_nil]
    rw [after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc,
      loop_keep m c r hc h0 h1 h2 h3 h4 h5 h6 k]
    rfl

end Cert.ReferenceIdeal.Hand
end
-- ==== Proof.Vec.lean ====
/-
  What one trip of the main loop computes for its two halves of eight rows, as a few definitions over vectors of eight
  rows: the members as loaded, the fold by four accumulators, the scale, the starting zero point, one step of the fit,
  the errors and the words of codes.
-/
module

public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe

variable {F : FTy → Type} [FloatOps F] [Named F]

/-- Accumulator `j` of a fold by four, after `n` more values: values `j`, `j + 4`, … -/
def acc4 {α : Type} (op : α → α → α) (f : ℕ → α) (j : ℕ) : ℕ → α
  | 0 => f j
  | n + 1 => op (acc4 op f j n) (f (j + 4 * (n + 1)))

/-- The fold of 64 values by four accumulators and then a tree. -/
def fold4 {α : Type} (op : α → α → α) (f : ℕ → α) : α :=
  op (op (acc4 op f 0 15) (acc4 op f 1 15)) (op (acc4 op f 2 15) (acc4 op f 3 15))

/-- The first row that the load of word `a` of half `b` takes in trip `k`. -/
theorem off8_eq (k : Fin k0_t2_loop.trips) (a : Fin 32) (b : Fin 2) :
    k0_off8 k (BitVec.ofNat 32 (276 * a.val)) (BitVec.ofNat 32 (8 * b.val)) = ![2 * (276 * a.val + 16 * k.val + 8 * b.val), 0] := by
  revert k a b; decide +kernel

theorem off8_inb (k : Fin k0_t2_loop.trips) (a : Fin 32) (b : Fin 2) :
    ∀ d, k0_off8 k (BitVec.ofNat 32 (276 * a.val)) (BitVec.ofNat 32 (8 * b.val)) d + S16x128.size d ≤ S17664x128.size d := by
  have hk : k.val < 17 := Nat.lt_of_lt_of_le k.isLt k0_t2_abs.2.1
  rw [off8_eq]; intro d
  have := a.isLt; have := b.isLt
  fin_cases d
  · show 2 * (276 * a.val + 16 * k.val + 8 * b.val) + 16 ≤ 17664; omega
  · show 0 + 128 ≤ 128; omega

theorem bitcasts_rows : S16x128.Bitcasts 16 S8x128 32 := by decide

abbrev V8 (F : FTy → Type) := FVec F S8x128 .f32

/-- Member `m` of the rows of half `b`, as loaded from the packed scratch. -/
def ldv (M : Memref sig .tc .vmem S17664x128 .bf16) (f7 : BufTy.Contents (Elt F) M.view.ty) (k : Fin k0_t2_loop.trips) (b : Fin 2) (m : ℕ) : V8 F :=
  if h : m / 2 < 32 then
    extf .f32 (rowsOfParity ⟨m % 2, Nat.mod_lt _ (by decide)⟩ S8x128
      (View.readAt (Elt F) M.view (Rect.unit (s := S17664x128) (k0_off8 k (BitVec.ofNat 32 (276 * (m / 2))) (BitVec.ofNat 32 (8 * b.val))) S16x128.size (off8_inb k ⟨m / 2, h⟩ b)).toLoadRect f7)
      bitcasts_rows) (by decide)
  else broadcast S8x128 (FloatOps.ofBits .f32 0#32)

/-- A word of the format, on every lane. -/
abbrev kv (w : BitVec 32) : V8 F := broadcast S8x128 (FloatOps.ofBits .f32 w)

/-- The least and the greatest member. -/
def mnV (w : ℕ → V8 F) : V8 F := fold4 minimumf w
def mxV (w : ℕ → V8 F) : V8 F := fold4 maximumf w

/-- The scale. -/
def sV (w : ℕ → V8 F) : V8 F :=
  select (cmpf .oeq (mxV w) (mnV w)) (kv 0x3F800000#32) (divf (subf (mxV w) (mnV w)) (kv 0x40400000#32))

/-- The starting zero point. -/
def z0V (w : ℕ → V8 F) : V8 F := divf (subf (kv 0#32) (mnV w)) (sV w)

/-- The base-two logarithm, as a quotient. -/
def lg2 (x : V8 F) : V8 F := divf (log x) (log (kv 0x40000000#32))

/-- The starting exponent. -/
def lc0V (w : ℕ → V8 F) : V8 F := subf (mulf k0_pay1366 (lg2 (sV w))) (broadcast S8x128 (Named.named κ "log2_beta_init" 0x40549A78#32))

/-- The rounded code, clipped twice. -/
def clipV (t : V8 F) : V8 F := minimumf (maximumf (minimumf (maximumf (roundeven t) (kv 0#32)) (kv 0x40400000#32)) (kv 0#32)) (kv 0x40400000#32)

/-- One member's part of the step of the fit. -/
def shrV (v1 u z lc : V8 F) : V8 F :=
  mulf (subf (addf u z) (clipV (addf u z))) (minimumf (exp2 (addf lc (mulf v1 (lg2 (absf (subf (addf u z) (clipV (addf u z)))))))) (kv 0x3F800000#32))

/-- One iteration of the fit. -/
def zStep (v1 : V8 F) (u : ℕ → V8 F) (z lc : V8 F) : V8 F := subf z (mulf (fold4 addf fun m => shrV v1 (u m) z lc) (kv 0x3C800000#32))
def lcStep (lc : V8 F) : V8 F := subf lc (broadcast S8x128 (Named.named κ "log2_beta_growth" 0x3C6B3276#32))

/-- One trip of the inner loop: two iterations, on both halves. -/
def fitTrip (v1 : V8 F) (u : ℕ → ℕ → V8 F) (a : V8 F × V8 F × V8 F × V8 F) : V8 F × V8 F × V8 F × V8 F :=
  (zStep v1 (u 0) (zStep v1 (u 0) a.1 a.2.2.1) (lcStep a.2.2.1), zStep v1 (u 1) (zStep v1 (u 1) a.2.1 a.2.2.2) (lcStep a.2.2.2),
    lcStep (lcStep a.2.2.1), lcStep (lcStep a.2.2.2))

/-- Piece `p` of the scaled members in their scratch, as read back. -/
def rdU (M : Memref sig .tc .vmem S1024x128 .f32) (f8 : BufTy.Contents (Elt F) M.view.ty) (p : ℕ) : V8 F :=
  if h : p < 128 then View.readAt (Elt F) M.view (Rect.unit (s := S1024x128) ![8 * p, 0] S8x128.size
    (Fin.forall_fin_two.mpr ⟨by show 8 * p + 8 ≤ 1024; omega, by show 0 + 128 ≤ 128; omega⟩)).toLoadRect f8
  else kv 0#32

/-- The scaled members. -/
def uV (w : ℕ → V8 F) (m : ℕ) : V8 F := divf (w m) (sV w)

/-- The stores of the first `n` pieces of scaled members, newest first. -/
def pcs8 (w : ℕ → ℕ → V8 F) : ℕ → List (View.Piece (Elt F) S1024x128 .f32)
  | 0 => []
  | p + 1 => if h : p < 128 then ⟨Rect.unit (s := S1024x128) ![8 * p, 0] S8x128.size
      (Fin.forall_fin_two.mpr ⟨by show 8 * p + 8 ≤ 1024; omega, by show 0 + 128 ≤ 128; omega⟩), shapeCast S8x128 (uV (w (p / 64)) (p % 64)) rfl⟩ :: pcs8 w p else []

/-- Eight codes in one number, the first lowest. -/
def hornV (q : ℕ → V8 F) (b : ℕ) : ℕ → V8 F
  | 0 => q (b + 7)
  | n + 1 => addf (mulf (hornV q b n) (kv 0x40800000#32)) (q (b + 7 - (n + 1)))

/-- One word of sixteen codes. -/
def wordV (q : ℕ → V8 F) (wd : ℕ) : IVec S8x128 32 :=
  ori (fptosi 32 (hornV q (16 * wd) 7)) (shli (fptosi 32 (hornV q (16 * wd + 8) 7)) (broadcast S8x128 16#32))

/-- One member's error. -/
def errV (v0 t : V8 F) : V8 F := exp2 (mulf v0 (lg2 (absf (subf t (clipV t)))))

/-- The error of a row. -/
def lpV (v0 s : V8 F) (t : ℕ → V8 F) : V8 F :=
  mulf (exp2 (mulf v0 (lg2 s))) (mulf (fold4 addf fun m => errV v0 (t m)) (kv 0x3C800000#32))

end Cert.KernelIdeal.Hand
end
-- ==== Proof.RealFit.lean ====
/-
  The fit of one group of 64 members over the reals, and the scalar operations of both programs on reals: what each
  formula of the kernel and of the reference is as a real number.
-/
module

public import proofs.«01_k».proof.Proof.Vec
public import Idealize.ShloMosaic.Lib.Pointwise

@[expose] public section

noncomputable section

namespace Cert.Fit

open Idealize.ShloMosaic
open Cert.KernelIdeal.Hand (acc4 fold4)

/-! ## Folds by four -/

theorem acc4_map {α β : Type} (φ : α → β) (op : α → α → α) (op' : β → β → β) (h : ∀ a b, φ (op a b) = op' (φ a) (φ b)) (f : ℕ → α) (j : ℕ) :
    ∀ n, φ (acc4 op f j n) = acc4 op' (fun m => φ (f m)) j n
  | 0 => rfl
  | n + 1 => by rw [acc4, acc4, h, acc4_map φ op op' h f j n]

theorem fold4_map {α β : Type} (φ : α → β) (op : α → α → α) (op' : β → β → β) (h : ∀ a b, φ (op a b) = op' (φ a) (φ b)) (f : ℕ → α) :
    φ (fold4 op f) = fold4 op' fun m => φ (f m) := by
  unfold fold4; rw [h, h, h]; simp only [acc4_map φ op op' h]

theorem le_acc4 (f : ℕ → EReal) (x : EReal) (j : ℕ) : ∀ n, x ≤ acc4 min f j n ↔ ∀ i ≤ n, x ≤ f (j + 4 * i)
  | 0 => by simp [acc4]
  | n + 1 => by
    rw [acc4, le_min_iff, le_acc4 f x j n]
    constructor
    · rintro ⟨h, h'⟩ i hi
      rcases Nat.lt_or_ge n i with hn | hn
      · obtain rfl : i = n + 1 := by omega
        exact h'
      · exact h i hn
    · intro h; exact ⟨fun i hi => h i (by omega), h _ (le_refl _)⟩

theorem acc4_le (f : ℕ → EReal) (x : EReal) (j : ℕ) : ∀ n, acc4 max f j n ≤ x ↔ ∀ i ≤ n, f (j + 4 * i) ≤ x
  | 0 => by simp [acc4]
  | n + 1 => by
    rw [acc4, max_le_iff, acc4_le f x j n]
    constructor
    · rintro ⟨h, h'⟩ i hi
      rcases Nat.lt_or_ge n i with hn | hn
      · obtain rfl : i = n + 1 := by omega
        exact h'
      · exact h i hn
    · intro h; exact ⟨fun i hi => h i (by omega), h _ (le_refl _)⟩

theorem all64 (P : ℕ → Prop) : ((((∀ i ≤ 15, P (0 + 4 * i)) ∧ ∀ i ≤ 15, P (1 + 4 * i)) ∧ ((∀ i ≤ 15, P (2 + 4 * i)) ∧ ∀ i ≤ 15, P (3 + 4 * i)))) ↔ ∀ j : Fin 64, P j.val := by
  constructor
  · rintro ⟨⟨h0, h1⟩, h2, h3⟩ ⟨j, hj⟩
    have hj4 : j % 4 < 4 := Nat.mod_lt _ (by decide)
    have hq : j / 4 ≤ 15 := by omega
    show P j
    rcases (by omega : j = 0 + 4 * (j / 4) ∨ j = 1 + 4 * (j / 4) ∨ j = 2 + 4 * (j / 4) ∨ j = 3 + 4 * (j / 4)) with h | h | h | h <;> rw [h]
    · exact h0 _ hq
    · exact h1 _ hq
    · exact h2 _ hq
    · exact h3 _ hq
  · intro h
    exact ⟨⟨fun i hi => h ⟨0 + 4 * i, by omega⟩, fun i hi => h ⟨1 + 4 * i, by omega⟩⟩, fun i hi => h ⟨2 + 4 * i, by omega⟩, fun i hi => h ⟨3 + 4 * i, by omega⟩⟩

theorem fold4_min (f : ℕ → EReal) : fold4 min f = Finset.univ.inf fun j : Fin 64 => f j.val := by
  refine eq_of_forall_le_iff fun x => ?_
  rw [fold4, le_min_iff, le_min_iff, le_min_iff, le_acc4, le_acc4, le_acc4, le_acc4, all64 fun j => x ≤ f j]
  simp [Finset.le_inf_iff]

theorem fold4_max (f : ℕ → EReal) : fold4 max f = Finset.univ.sup fun j : Fin 64 => f j.val := by
  refine eq_of_forall_ge_iff fun x => ?_
  rw [fold4, max_le_iff, max_le_iff, max_le_iff, acc4_le, acc4_le, acc4_le, acc4_le, all64 fun j => f j ≤ x]
  simp only [Finset.sup_le_iff, Finset.mem_univ, true_implies]

theorem acc4_add (f : ℕ → ℝ) (j : ℕ) : ∀ n, acc4 (· + ·) f j n = ∑ i ∈ Finset.range (n + 1), f (j + 4 * i)
  | 0 => by simp [acc4]
  | n + 1 => by rw [acc4, acc4_add f j n, Finset.sum_range_succ (n := n + 1)]

theorem fold4_add (f : ℕ → ℝ) : fold4 (· + ·) f = ∑ j : Fin 64, f j.val := by
  rw [Fin.sum_univ_eq_sum_range (fun j => f j) 64]
  rw [fold4, acc4_add, acc4_add, acc4_add, acc4_add]
  simp only [Finset.sum_range_succ, Finset.sum_range_zero]
  norm_num only
  ring

theorem fold4_coe (f : ℕ → ℝ) : fold4 (fun a b : EReal => a + b) (fun j => (f j : EReal)) = ((∑ j : Fin 64, f j.val : ℝ) : EReal) := by
  rw [← fold4_add]
  exact (fold4_map (fun r : ℝ => (r : EReal)) (· + ·) (fun a b : EReal => a + b) EReal.coe_add f).symm

/-! ## The constants -/

theorem c0 : Ideal.ofBits .f32 0x00000000#32 = ((0 : ℝ) : EReal) := by simp [Ideal.ofBits, Ideal.ieee]
theorem c1 : Ideal.ofBits .f32 0x3F800000#32 = ((1 : ℝ) : EReal) := by simp [Ideal.ofBits, Ideal.ieee, -EReal.coe_mul]; try norm_num
theorem c2 : Ideal.ofBits .f32 0x40000000#32 = ((2 : ℝ) : EReal) := by simp [Ideal.ofBits, Ideal.ieee, -EReal.coe_mul]; try norm_num
theorem c3 : Ideal.ofBits .f32 0x40400000#32 = ((3 : ℝ) : EReal) := by simp [Ideal.ofBits, Ideal.ieee, -EReal.coe_mul]; norm_num
theorem c4 : Ideal.ofBits .f32 0x40800000#32 = ((4 : ℝ) : EReal) := by simp [Ideal.ofBits, Ideal.ieee, -EReal.coe_mul]; norm_num
theorem c7 : Ideal.ofBits .f32 0x40E00000#32 = ((7 : ℝ) : EReal) := by simp [Ideal.ofBits, Ideal.ieee, -EReal.coe_mul]; norm_num
theorem c10 : Ideal.ofBits .f32 0x41200000#32 = ((10 : ℝ) : EReal) := by simp [Ideal.ofBits, Ideal.ieee, -EReal.coe_mul]; norm_num
theorem c64 : Ideal.ofBits .f32 0x42800000#32 = ((64 : ℝ) : EReal) := by simp [Ideal.ofBits, Ideal.ieee, -EReal.coe_mul]; norm_num
theorem c100 : Ideal.ofBits .f32 0x42C80000#32 = ((100 : ℝ) : EReal) := by simp [Ideal.ofBits, Ideal.ieee, -EReal.coe_mul]; norm_num
theorem c101 : Ideal.ofBits .f32 0x42CA0000#32 = ((101 : ℝ) : EReal) := by simp [Ideal.ofBits, Ideal.ieee, -EReal.coe_mul]; norm_num
theorem c1_64 : Ideal.ofBits .f32 0x3C800000#32 = ((1 / 64 : ℝ) : EReal) := by simp [Ideal.ofBits, Ideal.ieee, -EReal.coe_mul]; norm_num
theorem ctop : Ideal.ofBits .f32 0x7F800000#32 = (⊤ : EReal) := by simp [Ideal.ofBits, Ideal.ieee]
theorem cbot : Ideal.ofBits .f32 0xFF800000#32 = (⊥ : EReal) := by simp [Ideal.ofBits, Ideal.ieee]

/-! ## Scalar operations on reals -/

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm
theorem abs_coe (a : ℝ) : max (a : EReal) (-(a : EReal)) = ((|a| : ℝ) : EReal) := by
  rw [← EReal.coe_neg, max_coe]; rfl

/-- The rounded and clipped code of a scaled member. -/
def qr (t : ℝ) : ℝ := min 3 (max 0 (Ideal.roundHalfEven t : ℝ))

theorem qr_ker (t : ℝ) : min (max (min (max (Ideal.liftRound Ideal.roundHalfEven (t : EReal)) ((0 : ℝ) : EReal)) ((3 : ℝ) : EReal)) ((0 : ℝ) : EReal)) ((3 : ℝ) : EReal) = ((qr t : ℝ) : EReal) := by
  show min (max (min (max (((Ideal.roundHalfEven t : ℤ) : ℝ) : EReal) ((0 : ℝ) : EReal)) ((3 : ℝ) : EReal)) ((0 : ℝ) : EReal)) ((3 : ℝ) : EReal) = _
  rw [max_coe, min_coe, max_coe, min_coe]
  congr 1
  unfold qr
  rw [max_comm (0 : ℝ), min_comm (3 : ℝ)]
  have h1 : (0 : ℝ) ≤ min (max ((Ideal.roundHalfEven t : ℤ) : ℝ) 0) 3 := le_min (le_max_right _ _) (by norm_num)
  rw [max_eq_left h1, min_eq_left (min_le_right _ _)]

theorem qr_ref (t : ℝ) : min ((3 : ℝ) : EReal) (max ((0 : ℝ) : EReal) (Ideal.liftRound Ideal.roundHalfEven (t : EReal))) = ((qr t : ℝ) : EReal) := by
  show min ((3 : ℝ) : EReal) (max ((0 : ℝ) : EReal) (((Ideal.roundHalfEven t : ℤ) : ℝ) : EReal)) = _
  rw [max_coe, min_coe]; rfl

theorem log_coe (a : ℝ) (ha : 0 < a) : Ideal.log (a : EReal) = ((Real.log a : ℝ) : EReal) := by
  show (if a ≤ 0 then (⊥ : EReal) else (Real.log a : EReal)) = _
  rw [if_neg (not_le.mpr ha)]

theorem log_zero : Ideal.log ((0 : ℝ) : EReal) = ⊥ := by
  show (if (0 : ℝ) ≤ 0 then (⊥ : EReal) else (Real.log 0 : EReal)) = _
  rw [if_pos (le_refl _)]

theorem log2_pos : 0 < Real.log 2 := Real.log_pos (by norm_num)

/-- The base-two logarithm of a positive real, as both the kernel's quotient and a real. -/
theorem lg2_coe (a : ℝ) (ha : 0 < a) : Ideal.div (Ideal.log (a : EReal)) (Ideal.log ((2 : ℝ) : EReal)) = ((Real.log a / Real.log 2 : ℝ) : EReal) := by
  rw [log_coe a ha, log_coe 2 (by norm_num), div_coe _ _ log2_pos.ne']

theorem lg2_zero : Ideal.div (Ideal.log ((0 : ℝ) : EReal)) (Ideal.log ((2 : ℝ) : EReal)) = ⊥ := by
  rw [log_zero, log_coe 2 (by norm_num)]
  unfold Ideal.div
  rw [if_neg (by exact_mod_cast log2_pos.ne'), ← EReal.coe_inv, EReal.bot_mul_coe_of_pos (inv_pos.mpr log2_pos)]

theorem exp2_coe (a : ℝ) : Ideal.exp2 (a : EReal) = (((2 : ℝ) ^ a : ℝ) : EReal) := rfl

theorem two_rpow_lg (p a : ℝ) (ha : 0 < a) : (2 : ℝ) ^ (p * (Real.log a / Real.log 2)) = a ^ p := by
  rw [Real.rpow_def_of_pos (by norm_num), Real.rpow_def_of_pos ha]
  congr 1
  have := log2_pos.ne'
  field_simp

/-- One member's part of the step: `d` shrunk. -/
def shr (S β d : ℝ) : ℝ := d * min (1 / β * (S * |d|) ^ (-13 / 10 : ℝ)) 1

/-- The kernel's exponent. -/
def lcR (S β : ℝ) : ℝ := -13 / 10 * (Real.log S / Real.log 2) - Real.log β / Real.log 2

theorem ratio_eq (S β d : ℝ) (hS : 0 < S) (hβ : 0 < β) (hd : 0 < |d|) :
    (2 : ℝ) ^ (lcR S β + -13 / 10 * (Real.log |d| / Real.log 2)) = 1 / β * (S * |d|) ^ (-13 / 10 : ℝ) := by
  have h : lcR S β + -13 / 10 * (Real.log |d| / Real.log 2) = (-13 / 10) * (Real.log (S * |d|) / Real.log 2) + (-1) * (Real.log β / Real.log 2) := by
    rw [Real.log_mul hS.ne' hd.ne']; unfold lcR; ring
  rw [h, Real.rpow_add (by norm_num), two_rpow_lg _ _ (mul_pos hS hd), two_rpow_lg _ _ hβ, Real.rpow_neg_one]
  ring

theorem shr_ker (S β d : ℝ) (hS : 0 < S) (hβ : 0 < β) :
    (d : EReal) * min (Ideal.exp2 (((lcR S β : ℝ) : EReal) + ((-13 / 10 : ℝ) : EReal) * Ideal.div (Ideal.log (max (d : EReal) (-(d : EReal)))) (Ideal.log ((2 : ℝ) : EReal)))) ((1 : ℝ) : EReal)
      = ((shr S β d : ℝ) : EReal) := by
  by_cases hd : d = 0
  · subst hd; simp [shr]
  · have ha : 0 < |d| := abs_pos.mpr hd
    rw [abs_coe, lg2_coe _ ha, ← EReal.coe_mul, ← EReal.coe_add, exp2_coe, min_coe, ← EReal.coe_mul, ratio_eq S β d hS hβ ha]
    rfl

theorem err_ker (d : ℝ) : Ideal.exp2 (((7 / 10 : ℝ) : EReal) * Ideal.div (Ideal.log (max (d : EReal) (-(d : EReal)))) (Ideal.log ((2 : ℝ) : EReal))) = ((|d| ^ (7 / 10 : ℝ) : ℝ) : EReal) := by
  rw [abs_coe]
  by_cases hd : d = 0
  · subst hd
    rw [abs_zero, lg2_zero, EReal.coe_mul_bot_of_pos (by norm_num), Real.zero_rpow (by norm_num)]; rfl
  · have ha : 0 < |d| := abs_pos.mpr hd
    rw [lg2_coe _ ha, ← EReal.coe_mul, exp2_coe, two_rpow_lg _ _ ha]

theorem scale_ker (S : ℝ) (hS : 0 < S) : Ideal.exp2 (((7 / 10 : ℝ) : EReal) * Ideal.div (Ideal.log (S : EReal)) (Ideal.log ((2 : ℝ) : EReal))) = ((S ^ (7 / 10 : ℝ) : ℝ) : EReal) := by
  rw [lg2_coe _ hS, ← EReal.coe_mul, exp2_coe, two_rpow_lg _ _ hS]

/-! ## The reference's step of one member -/

/-- The reference's summand, as a real. -/
def refTerm (w S z β q : ℝ) : ℝ :=
  q - (w - (SignType.sign (w - (q - z) * S) : ℝ) * max (|w - (q - z) * S| - 1 / β * (if 0 < |w - (q - z) * S| then |w - (q - z) * S| else 1) ^ (7 / 10 - 1 : ℝ)) 0) / S

theorem refTerm_eq (w S z β q : ℝ) (hS : 0 < S) (hβ : 0 < β) : refTerm w S z β q = z - shr S β (w / S + z - q) := by
  set d := w / S + z - q with hd
  have he : w - (q - z) * S = S * d := by rw [hd]; field_simp; ring
  have hw : w / S = d - z + q := by rw [hd]; ring
  unfold refTerm
  rw [he, abs_mul, abs_of_pos hS]
  have hs : (SignType.sign (S * d) : ℝ) = (SignType.sign d : ℝ) := by
    rw [sign_mul, sign_pos hS, one_mul]
  rw [hs, sub_div, hw]
  by_cases h0 : d = 0
  · rw [h0]; simp [shr]
  · have ha : 0 < |d| := abs_pos.mpr h0
    have hp : 0 < S * |d| := mul_pos hS ha
    rw [if_pos hp]
    have hpow : (S * |d|) ^ (7 / 10 - 1 : ℝ) = (S * |d|) * (S * |d|) ^ (-13 / 10 : ℝ) := by
      conv_rhs => lhs; rw [← Real.rpow_one (S * |d|)]
      rw [← Real.rpow_add hp]; norm_num
    rw [hpow]
    unfold shr
    set r := 1 / β * (S * |d|) ^ (-13 / 10 : ℝ) with hr
    have h1 : S * |d| - 1 / β * (S * |d| * (S * |d|) ^ (-13 / 10 : ℝ)) = (S * |d|) * (1 - r) := by rw [hr]; ring
    rw [h1]
    have h2 : max (S * |d| * (1 - r)) 0 = (S * |d|) * (1 - min r 1) := by
      rcases le_total r 1 with h | h
      · rw [min_eq_left h, max_eq_left (mul_nonneg hp.le (by linarith))]
      · rw [min_eq_right h, max_eq_right (mul_nonpos_of_nonneg_of_nonpos hp.le (by linarith))]; ring
    rw [h2]
    have h3 : (SignType.sign d : ℝ) * (S * |d| * (1 - min r 1)) / S = d * (1 - min r 1) := by
      have : (SignType.sign d : ℝ) * |d| = d := sign_mul_abs d
      calc (SignType.sign d : ℝ) * (S * |d| * (1 - min r 1)) / S = ((SignType.sign d : ℝ) * |d|) * (1 - min r 1) := by field_simp
        _ = _ := by rw [this]
    rw [h3]; ring

end Cert.Fit
end
-- ==== Proof.RefStep.lean ====
/-
  The reference's numbers at one group, over the reals: one step of its fit.
-/
module

public import proofs.«01_k».proof.Proof.RefPost
public import proofs.«01_k».proof.Proof.RealFit
public import Idealize.ShloMosaic.Lib.Pointwise

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Fit

variable (a : Fin 2) (g : Fin 45) (j : Fin 64) (n : Fin 5760)

/-- The place of a group's numbers, and of one of its members. -/
abbrev gi : S2x45x1x5760.Idx := ix4 a g (0 : Fin 1) n
abbrev mi : S2x45x64x5760.Idx := ix4 a g j n

theorem onMembers_at (A : S2x45x1x5760.Idx → Ideal .f32) : onMembers A (mi a g j n) = A (gi a g n) := by
  pointwise

theorem sum_at (T : S2x45x64x5760.Idx → Ideal .f32) :
    Host.reduceAdd T (constant S_ .f32 0x00000000#32) reducesTo_S2x45x64x5760_S2x45x5760_d2 h_S_ (ix3 a g n) = ∑ j : Fin 64, T (mi a g j n) := by
  pointwise

theorem mean_at (T : S2x45x64x5760.Idx → Ideal .f32) :
    (Host.divf (broadcastInDim S2x45x1x5760 ![0, 1, 3] bcast_S2x45x5760_S2x45x1x5760_0_1_3 (Host.reduceAdd T (constant S_ .f32 0x00000000#32) reducesTo_S2x45x64x5760_S2x45x5760_d2 h_S_))
      (broadcastInDim S2x45x1x5760 ![] bcast_S_S2x45x1x5760 (constant S_ .f32 0x42800000#32)) : S2x45x1x5760.Idx → Ideal .f32) (gi a g n)
      = Ideal.div (∑ j : Fin 64, T (mi a g j n)) (Ideal.ofBits .f32 0x42800000#32) := by
  pointwise

theorem coe_sum64 (f : Fin 64 → ℝ) : (∑ j : Fin 64, ((f j : ℝ) : EReal)) = ((∑ j : Fin 64, f j : ℝ) : EReal) :=
  (map_sum (⟨⟨fun r : ℝ => (r : EReal), EReal.coe_zero⟩, EReal.coe_add⟩ : ℝ →+ EReal) f Finset.univ).symm

variable (V0 : Valuation τ sig (Elt Ideal)) (W : S2x45x64x5760.Idx → ℝ) (S Z : S2x45x1x5760.Idx → ℝ) (β : ℝ)

/-- The carried arrays are these reals. -/
structure Carries : Prop where
  w : V0 (Proc.devRef .tc main_v15_0) = fun i => ((W i : ℝ) : EReal)
  s : V0 (Proc.devRef .tc main_v15_1) = fun i => ((S i : ℝ) : EReal)
  z : V0 (Proc.devRef .tc main_v15_4) = fun i => ((Z i : ℝ) : EReal)
  b : V0 (Proc.devRef .tc main_v15_5) = fun _ => ((β : ℝ) : EReal)

theorem rQ_at (hS : ∀ i, 0 < S i) : rQ (F := Ideal) (fun i => ((W i : ℝ) : EReal)) (fun i => ((S i : ℝ) : EReal)) (fun i => ((Z i : ℝ) : EReal)) (mi a g j n)
    = ((qr (W (mi a g j n) / S (gi a g n) + Z (gi a g n)) : ℝ) : EReal) := by
  show min (Ideal.ofBits .f32 0x40400000#32) (max (Ideal.ofBits .f32 0x00000000#32) (Ideal.liftRound Ideal.roundHalfEven
    (Ideal.div ((W (mi a g j n) : ℝ) : EReal) (onMembers (F := Ideal) (fun i => ((S i : ℝ) : EReal)) (mi a g j n)) + onMembers (F := Ideal) (fun i => ((Z i : ℝ) : EReal)) (mi a g j n)))) = _
  rw [onMembers_at, onMembers_at, c3, c0, div_coe _ _ (hS _).ne', ← EReal.coe_add, qr_ref]

/-- The step's codes, errors, errors' magnitudes and carried arrays, as arrays of extended reals. -/
abbrev q71 : S2x45x64x5760.Idx → EReal := res_main_while0b_v71 V0
abbrev e76 : S2x45x64x5760.Idx → EReal := res_main_while0b_v76 V0
abbrev a77 : S2x45x64x5760.Idx → EReal := res_main_while0b_v77 V0
abbrev w0 : S2x45x64x5760.Idx → EReal := V0 (Proc.devRef .tc main_v15_0)
abbrev s1 : S2x45x1x5760.Idx → EReal := V0 (Proc.devRef .tc main_v15_1)
abbrev z4 : S2x45x1x5760.Idx → EReal := V0 (Proc.devRef .tc main_v15_4)
abbrev b5 : S_.Idx → EReal := V0 (Proc.devRef .tc main_v15_5)

variable {V0 W S Z β}

theorem Carries.w' (h : Carries V0 W S Z β) (i) : w0 V0 i = ((W i : ℝ) : EReal) := congrFun h.w i
theorem Carries.s' (h : Carries V0 W S Z β) (i) : s1 V0 i = ((S i : ℝ) : EReal) := congrFun h.s i
theorem Carries.z' (h : Carries V0 W S Z β) (i) : z4 V0 i = ((Z i : ℝ) : EReal) := congrFun h.z i
theorem Carries.b' (h : Carries V0 W S Z β) (i) : b5 V0 i = ((β : ℝ) : EReal) := congrFun h.b i

theorem v71_at (h : Carries V0 W S Z β) (hS : ∀ i, 0 < S i) : q71 V0 (mi a g j n) = ((qr (W (mi a g j n) / S (gi a g n) + Z (gi a g n)) : ℝ) : EReal) := by
  rw [← rQ_at a g j n W S Z hS, ← h.w, ← h.s, ← h.z]; rfl

theorem v76_at (h : Carries V0 W S Z β) (hS : ∀ i, 0 < S i) : e76 V0 (mi a g j n)
    = ((W (mi a g j n) - (qr (W (mi a g j n) / S (gi a g n) + Z (gi a g n)) - Z (gi a g n)) * S (gi a g n) : ℝ) : EReal) := by
  show w0 V0 (mi a g j n) - (q71 V0 (mi a g j n) - onMembers (F := Ideal) (z4 V0) (mi a g j n)) * onMembers (F := Ideal) (s1 V0) (mi a g j n) = _
  rw [v71_at a g j n h hS, onMembers_at, onMembers_at, h.w', h.s', h.z', ← EReal.coe_sub, ← EReal.coe_mul, ← EReal.coe_sub]

theorem v77_at (h : Carries V0 W S Z β) (hS : ∀ i, 0 < S i) : a77 V0 (mi a g j n)
    = ((|W (mi a g j n) - (qr (W (mi a g j n) / S (gi a g n) + Z (gi a g n)) - Z (gi a g n)) * S (gi a g n)| : ℝ) : EReal) := by
  show max (e76 V0 (mi a g j n)) (-e76 V0 (mi a g j n)) = _
  rw [v76_at a g j n h hS, abs_coe]

theorem pow_coe (x y : ℝ) : Ideal.pow (x : EReal) (y : EReal) = ((x ^ y : ℝ) : EReal) := rfl
theorem sign_coe (x : ℝ) : Ideal.sign (x : EReal) = ((SignType.sign x : ℝ) : EReal) := rfl

/-- One step of the reference's fit, at one group. -/
theorem step_at (h : Carries V0 W S Z β) (hS : ∀ i, 0 < S i) (hβ : 0 < β) :
    step_main_v15_4 V0 (gi a g n) = ((Z (gi a g n) - (∑ j : Fin 64, shr (S (gi a g n)) β (W (mi a g j n) / S (gi a g n) + Z (gi a g n) - qr (W (mi a g j n) / S (gi a g n) + Z (gi a g n)))) * (1 / 64) : ℝ) : EReal) := by
  unfold step_main_v15_4
  refine (mean_at a g n _).trans ?_
  have key : ∀ j : Fin 64, (subf (res_main_while0b_v71 V0) (Host.divf (subf (V0 (Proc.devRef .tc main_v15_0)) (mulf (Host.sign (res_main_while0b_v76 V0)) (maximumf (subf (res_main_while0b_v77 V0) (mulf (broadcastInDim S2x45x64x5760 ![] bcast_S_S2x45x64x5760 (Host.divf (constant S_ .f32 0x3F800000#32) (V0 (Proc.devRef .tc main_v15_5)))) (Host.powf (select (cmpf .ogt (res_main_while0b_v77 V0) (broadcastInDim S2x45x64x5760 ![] bcast_S_S2x45x64x5760 (constant S_ .f32 0x00000000#32))) (res_main_while0b_v77 V0) (broadcastInDim S2x45x64x5760 ![] bcast_S_S2x45x64x5760 (id (constant S_ .f32 0x3F800000#32)))) (broadcastInDim S2x45x64x5760 ![] bcast_S_S2x45x64x5760 (subf (Host.divf (constant S_ .f32 0x40E00000#32) (constant S_ .f32 0x41200000#32)) (constant S_ .f32 0x3F800000#32)))))) (broadcastInDim S2x45x64x5760 ![] bcast_S_S2x45x64x5760 (constant S_ .f32 0x00000000#32))))) (broadcastInDim S2x45x64x5760 ![0, 1, 2, 3] bcast_S2x45x1x5760_S2x45x64x5760_0_1_2_3 (V0 (Proc.devRef .tc main_v15_1)))) : S2x45x64x5760.Idx → Ideal .f32) (mi a g j n)
      = ((Z (gi a g n) - shr (S (gi a g n)) β (W (mi a g j n) / S (gi a g n) + Z (gi a g n) - qr (W (mi a g j n) / S (gi a g n) + Z (gi a g n))) : ℝ) : EReal) := by
    intro j
    show q71 V0 (mi a g j n) - Ideal.div (w0 V0 (mi a g j n)
      - Ideal.sign (e76 V0 (mi a g j n)) * max (a77 V0 (mi a g j n)
        - Ideal.div (Ideal.ofBits .f32 0x3F800000#32) (b5 V0 _)
          * Ideal.pow (if Ideal.cmp .ogt (a77 V0 (mi a g j n)) (Ideal.ofBits .f32 0x00000000#32) = 1#1 then a77 V0 (mi a g j n) else Ideal.ofBits .f32 0x3F800000#32)
              (Ideal.div (Ideal.ofBits .f32 0x40E00000#32) (Ideal.ofBits .f32 0x41200000#32) - Ideal.ofBits .f32 0x3F800000#32)) (Ideal.ofBits .f32 0x00000000#32))
      (onMembers (F := Ideal) (s1 V0) (mi a g j n)) = _
    rw [v71_at a g j n h hS, v76_at a g j n h hS, v77_at a g j n h hS, onMembers_at, h.w', h.s', h.b']
    rw [← refTerm_eq _ _ _ _ _ (hS _) hβ]
    set e := W (mi a g j n) - (qr (W (mi a g j n) / S (gi a g n) + Z (gi a g n)) - Z (gi a g n)) * S (gi a g n) with he
    have hsel : (if Ideal.cmp .ogt ((|e| : ℝ) : EReal) (Ideal.ofBits .f32 0x00000000#32) = 1#1 then ((|e| : ℝ) : EReal) else Ideal.ofBits .f32 0x3F800000#32)
        = (((if 0 < |e| then |e| else 1) : ℝ) : EReal) := by
      rw [c0, c1]
      unfold Ideal.cmp
      by_cases h0 : 0 < |e|
      · have : ((0 : ℝ) : EReal) < ((|e| : ℝ) : EReal) := by exact_mod_cast h0
        simp only [this, h0, decide_true, if_true]; rfl
      · have : ¬((0 : ℝ) : EReal) < ((|e| : ℝ) : EReal) := by exact_mod_cast h0
        simp only [this, h0, decide_false, if_false]; rfl
    rw [hsel, c1, c7, c10, c0, div_coe _ _ hβ.ne', div_coe _ _ (by norm_num : (10 : ℝ) ≠ 0), ← EReal.coe_sub, pow_coe, sign_coe, ← EReal.coe_mul, ← EReal.coe_sub, max_coe,
      ← EReal.coe_mul, ← EReal.coe_sub, div_coe _ _ (hS _).ne', ← EReal.coe_sub]
    rfl
  refine (congrArg (fun s => Ideal.div s (Ideal.ofBits .f32 0x42800000#32)) ((Finset.sum_congr rfl fun j _ => key j).trans (coe_sum64 _))).trans ?_
  show Ideal.div _ _ = _
  rw [c64, div_coe _ _ (by norm_num : (64 : ℝ) ≠ 0), Finset.sum_sub_distrib]
  congr 1
  simp only [Finset.sum_const, Finset.card_univ, Fintype.card_fin, nsmul_eq_mul]
  push_cast
  ring

end Cert.ReferenceIdeal.Hand
end
-- ==== Proof.Rows.lean ====
/-
  The vectors of `Vec` read one element at a time: every row of the main loop is computed by itself, from its own 64
  members.
-/
module

public import proofs.«01_k».proof.Proof.Vec
public import Idealize.ShloMosaic.Lib.ValueIdxCore
public import Idealize.ShloMosaic.Lib.Pipeline.Value
public import Idealize.ShloMosaic.Lib.Writes

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]

/-! ## The fit of a block of rows -/

/-- The zero point and the exponent of a block of rows, after `n` iterations. -/
def fitV (w : ℕ → V8 F) : ℕ → V8 F × V8 F
  | 0 => (z0V w, lc0V w)
  | n + 1 => (zStep k0_pay1366 (uV w) (fitV w n).1 (fitV w n).2, lcStep (fitV w n).2)

/-- Both halves after `n` iterations, in the order the inner loop carries them. -/
def fit2V (w : ℕ → ℕ → V8 F) (n : ℕ) : V8 F × V8 F × V8 F × V8 F :=
  ((fitV (w 0) n).1, (fitV (w 1) n).1, (fitV (w 0) n).2, (fitV (w 1) n).2)

/-! ## One row -/

/-- An element of a block, whose choice does not matter for a block that is the same on every lane. -/
abbrev jz : S8x128.Idx := ix2 0 0

/-- One row's members, on every lane. -/
def everyLane (w : ℕ → F .f32) : ℕ → V8 F := fun m _ => w m

def rowS (w : ℕ → F .f32) : F .f32 := sV (everyLane w) jz
def rowU (w : ℕ → F .f32) (m : ℕ) : F .f32 := uV (everyLane w) m jz
def rowZ0 (w : ℕ → F .f32) : F .f32 := z0V (everyLane w) jz

/-- The zero point and the exponent of one row, after `n` iterations. -/
def rowFit (w : ℕ → F .f32) : ℕ → F .f32 × F .f32
  | 0 => (rowZ0 w, lc0V (everyLane w) jz)
  | n + 1 => (zStep k0_pay1366 (uV (everyLane w)) (fun _ => (rowFit w n).1) (fun _ => (rowFit w n).2) jz, lcStep (fun _ => (rowFit w n).2) jz)

def rowZ (w : ℕ → F .f32) : F .f32 := (rowFit w 20).1

/-- A row's codes, as floats. -/
def rowQ (w : ℕ → F .f32) (m : ℕ) : F .f32 := clipV (addf (uV (everyLane w) m) fun _ => rowZ w) jz

/-- A row's words of codes. -/
def rowWord (w : ℕ → F .f32) (wd : ℕ) : BitVec 32 := wordV (everyLane (rowQ w)) wd jz

/-- A row's error. -/
def rowLp (w : ℕ → F .f32) : F .f32 := lpV k0_pay1365 (fun _ => rowS w) (fun m => addf (uV (everyLane w) m) fun _ => rowZ w) jz

/-- How far the fit moved a row's zero point. -/
def rowShift (w : ℕ → F .f32) : F .f32 := subf (fun _ => rowZ w) (z0V (everyLane w)) jz

/-- A row's four numbers, in the order they are kept. -/
def rowG (w : ℕ → F .f32) : Fin 4 → F .f32 := ![rowS w, rowZ w, rowLp w, rowShift w]

theorem sV_at (w : ℕ → V8 F) (j : S8x128.Idx) : sV w j = rowS (fun m => w m j) := rfl
theorem z0V_at (w : ℕ → V8 F) (j : S8x128.Idx) : z0V w j = rowZ0 (fun m => w m j) := rfl

theorem fitV_at (w : ℕ → V8 F) (n : ℕ) (j : S8x128.Idx) :
    (fitV w n).1 j = (rowFit (fun m => w m j) n).1 ∧ (fitV w n).2 j = (rowFit (fun m => w m j) n).2 := by
  induction n with
  | zero => exact ⟨rfl, rfl⟩
  | succ n ih =>
    have h1 : ∀ z lc : V8 F, zStep k0_pay1366 (uV w) z lc j = zStep k0_pay1366 (uV (everyLane fun m => w m j)) (fun _ => z j) (fun _ => lc j) jz := fun _ _ => rfl
    have h2 : ∀ lc : V8 F, lcStep lc j = lcStep (fun _ => lc j) jz := fun _ => rfl
    constructor
    · show zStep k0_pay1366 (uV w) (fitV w n).1 (fitV w n).2 j = _
      rw [h1, ih.1, ih.2]; rfl
    · show lcStep (fitV w n).2 j = _
      rw [h2, ih.2]; rfl

theorem qV_at (w : ℕ → V8 F) (m : ℕ) (j : S8x128.Idx) :
    clipV (addf (uV w m) (fitV w 20).1) j = rowQ (fun m => w m j) m := by
  have h : ∀ z : V8 F, clipV (addf (uV w m) z) j = clipV (addf (uV (everyLane fun m => w m j) m) fun _ => z j) jz := fun _ => rfl
  rw [h, (fitV_at w 20 j).1]; rfl

theorem wordV_at (w : ℕ → V8 F) (wd : ℕ) (j : S8x128.Idx) :
    wordV (fun m => clipV (addf (uV w m) (fitV w 20).1)) wd j = rowWord (fun m => w m j) wd := by
  have h : ∀ q : ℕ → V8 F, wordV q wd j = wordV (everyLane fun m => q m j) wd jz := fun _ => rfl
  rw [h]; simp only [qV_at]; rfl

theorem lpV_at (w : ℕ → V8 F) (j : S8x128.Idx) :
    lpV k0_pay1365 (sV w) (fun m => addf (uV w m) (fitV w 20).1) j = rowLp (fun m => w m j) := by
  have h : ∀ z : V8 F, lpV k0_pay1365 (sV w) (fun m => addf (uV w m) z) j
      = lpV k0_pay1365 (fun _ => rowS fun m => w m j) (fun m => addf (uV (everyLane fun m => w m j) m) fun _ => z j) jz := fun _ => rfl
  rw [h, (fitV_at w 20 j).1]; rfl

theorem shiftV_at (w : ℕ → V8 F) (j : S8x128.Idx) : subf (fitV w 20).1 (z0V w) j = rowShift (fun m => w m j) := by
  have h : ∀ z : V8 F, subf z (z0V w) j = subf (fun _ => z j) (z0V (everyLane fun m => w m j)) jz := fun _ => rfl
  rw [h, (fitV_at w 20 j).1]; rfl

/-! ## The members as loaded -/

/-- Member `m` of row `L` in the packed scratch. -/
def memb (x7 : S17664x128.Idx → F .bf16) (L : ℕ) (l : Fin 128) (m : ℕ) : F .f32 :=
  if m / 2 < 32 then FloatOps.extf .f32 (by decide) (x7 (ix2 (n0 := 17664) (n1 := 128) ⟨(2 * (276 * (m / 2) + L) + m % 2) % 17664, Nat.mod_lt _ (by decide)⟩ l)) else FloatOps.ofBits .f32 0#32

theorem ldv_at (M : Memref sig .tc .vmem S17664x128 .bf16) (f7 : BufTy.Contents (Elt F) M.view.ty) (k : Fin k0_t2_loop.trips) (b : Fin 2) (m : ℕ)
    (r : Fin 8) (l : Fin 128) :
    ldv M f7 k b m (ix2 (n0 := 8) (n1 := 128) r l) = memb (M.view.read (Elt F) f7) (16 * k.val + 8 * b.val + r.val) l m := by
  have hk : k.val < 17 := Nat.lt_of_lt_of_le k.isLt k0_t2_abs.2.1
  unfold ldv memb
  split
  · rename_i h
    have hb := b.isLt; have hr := r.isLt
    have e : ∀ (i i' : S17664x128.Idx), i = i' → (FloatOps.extf .f32 (by decide) (M.view.read (Elt F) f7 i) : F .f32) = FloatOps.extf .f32 (by decide) (M.view.read (Elt F) f7 i') := by
      rintro i _ rfl; rfl
    refine e _ _ ?_
    have ho := off8_eq k ⟨m / 2, h⟩ b
    funext a
    match a with
    | ⟨0, _⟩ =>
      apply Fin.ext
      show k0_off8 k (BitVec.ofNat 32 (276 * (m / 2))) (BitVec.ofNat 32 (8 * b.val)) 0 + 1 * (2 * r.val + m % 2) = (2 * (276 * (m / 2) + (16 * k.val + 8 * b.val + r.val)) + m % 2) % 17664
      rw [ho]
      show 2 * (276 * (m / 2) + 16 * k.val + 8 * b.val) + 1 * (2 * r.val + m % 2) = _
      have hlt : 2 * (276 * (m / 2) + (16 * k.val + 8 * b.val + r.val)) + m % 2 < 17664 := by omega
      rw [Nat.mod_eq_of_lt hlt]; omega
    | ⟨1, _⟩ =>
      apply Fin.ext
      show k0_off8 k (BitVec.ofNat 32 (276 * (m / 2))) (BitVec.ofNat 32 (8 * b.val)) 1 + 1 * l.val = l.val
      rw [ho]; show 0 + 1 * l.val = l.val; omega
  · rfl

/-! ## The scaled members, read back -/

theorem read_pcs8 (M : Memref sig .tc .vmem S1024x128 .f32) (f8 : BufTy.Contents (Elt F) M.view.ty) (w : ℕ → ℕ → V8 F) (n : ℕ) (hn : n ≤ 128)
    (p : ℕ) (hp : p < n) (r : Fin 8) (l : Fin 128) :
    M.view.read (Elt F) (M.view.writes (Elt F) f8 (pcs8 w n)) (ix2 (n0 := 1024) (n1 := 128) ⟨8 * p + r.val, by omega⟩ l) = uV (w (p / 64)) (p % 64) (ix2 (n0 := 8) (n1 := 128) r l) := by
  induction n with
  | zero => omega
  | succ n ih =>
    have hn' : n < 128 := by omega
    rw [pcs8, dif_pos hn']
    by_cases h : p = n
    · subst h
      have hx : (ix2 (n0 := 1024) (n1 := 128) ⟨8 * p + r.val, by omega⟩ l) = (Rect.unit (s := S1024x128) ![8 * p, 0] S8x128.size
          (Fin.forall_fin_two.mpr ⟨by show 8 * p + 8 ≤ 1024; omega, by show 0 + 128 ≤ 128; omega⟩)).emb (ix2 (n0 := 8) (n1 := 128) r l) := by
        funext a
        match a with
        | ⟨0, _⟩ => apply Fin.ext; show 8 * p + r.val = 8 * p + 1 * r.val; omega
        | ⟨1, _⟩ => apply Fin.ext; show l.val = 0 + 1 * l.val; omega
      rw [hx, View.read_writes_cons_emb, shapeCast_self]
    · rw [View.writes_cons, View.read_slice_write_of_not_mem]
      · exact ih (by omega) (by omega)
      · rw [Rect.map_emb_univ]
        intro hm
        obtain ⟨j, hj, e⟩ := (LoadRect.mem_set _).mp hm 0
        have hj' : j < 8 := hj
        have e' : 8 * p + r.val = 8 * n + 1 * j := e
        omega

theorem rdU_pcs8 (M : Memref sig .tc .vmem S1024x128 .f32) (f8 : BufTy.Contents (Elt F) M.view.ty) (w : ℕ → ℕ → V8 F) (p : ℕ) (hp : p < 128) :
    rdU M (M.view.writes (Elt F) f8 (pcs8 w 128)) p = uV (w (p / 64)) (p % 64) := by
  unfold rdU; rw [dif_pos hp]
  funext j; obtain ⟨r, l, rfl⟩ : ∃ (r : Fin 8) (l : Fin 128), j = ix2 (n0 := 8) (n1 := 128) r l := ⟨j 0, j 1, eq_ix2 j⟩
  rw [← read_pcs8 M f8 w 128 (le_refl _) p hp r l]
  refine congrArg (M.view.read (Elt F) _) ?_
  funext a
  match a with
  | ⟨0, _⟩ => apply Fin.ext; show 8 * p + 1 * r.val = 8 * p + r.val; omega
  | ⟨1, _⟩ => apply Fin.ext; show 0 + 1 * l.val = l.val; omega

/-! ## The inner loop -/

theorem acc4_congr {α : Type} (op : α → α → α) (f g : ℕ → α) (n : ℕ) (j : ℕ) (h : ∀ m, m ≤ j + 4 * n → f m = g m) : acc4 op f j n = acc4 op g j n := by
  induction n with
  | zero => exact h j (by omega)
  | succ n ih => rw [acc4, acc4, ih fun m hm => h m (by omega), h _ (le_refl _)]

theorem fold4_congr {α : Type} (op : α → α → α) (f g : ℕ → α) (h : ∀ m < 64, f m = g m) : fold4 op f = fold4 op g := by
  unfold fold4
  rw [acc4_congr op f g 15 0 fun m hm => h m (by omega), acc4_congr op f g 15 1 fun m hm => h m (by omega),
    acc4_congr op f g 15 2 fun m hm => h m (by omega), acc4_congr op f g 15 3 fun m hm => h m (by omega)]

theorem zStep_congr (v1 : V8 F) (u u' : ℕ → V8 F) (z lc : V8 F) (h : ∀ m < 64, u m = u' m) : zStep v1 u z lc = zStep v1 u' z lc := by
  unfold zStep; rw [fold4_congr _ _ (fun m => shrV v1 (u' m) z lc) fun m hm => by rw [h m hm]]

/-- One trip of the inner loop takes the fit two iterations on. -/
theorem fitTrip_fit2V (w : ℕ → ℕ → V8 F) (u : ℕ → ℕ → V8 F) (hu : ∀ b < 2, ∀ m < 64, u b m = uV (w b) m) (n : ℕ) :
    fitTrip k0_pay1366 u (fit2V w (2 * n)) = fit2V w (2 * (n + 1)) := by
  have h0 : ∀ z lc, zStep k0_pay1366 (u 0) z lc = zStep k0_pay1366 (uV (w 0)) z lc := fun z lc => zStep_congr _ _ _ _ _ (hu 0 (by omega))
  have h1 : ∀ z lc, zStep k0_pay1366 (u 1) z lc = zStep k0_pay1366 (uV (w 1)) z lc := fun z lc => zStep_congr _ _ _ _ _ (hu 1 (by omega))
  unfold fitTrip; rw [h0, h0, h1, h1]; rfl

end Cert.KernelIdeal.Hand
end
-- ==== Proof.KernelRow.lean ====
/-
  What the kernel computes for one group of 64 finite members, as real numbers: its scale, its zero point after every
  iteration of the fit, its codes, its error and the shift of its zero point.
-/
module

public import proofs.«01_k».proof.Proof.RealFit
public import proofs.«01_k».proof.Proof.Rows

@[expose] public section

noncomputable section

namespace Cert.Fit

open Idealize.ShloMosaic
open Cert.KernelIdeal Cert.KernelIdeal.Gen Cert.KernelIdeal.Hand

variable (W : ℕ → ℝ)

/-- The members as the kernel holds them. -/
abbrev up : ℕ → Ideal .f32 := fun j => (W j : EReal)

/-! ## The real fit -/

/-- The least and the greatest of the 64 members. -/
def loE : EReal := Finset.univ.inf fun j : Fin 64 => (W j.val : EReal)
def hiE : EReal := Finset.univ.sup fun j : Fin 64 => (W j.val : EReal)
def lo : ℝ := (loE W).toReal
def hi : ℝ := (hiE W).toReal

theorem lo_coe : loE W = ((lo W : ℝ) : EReal) := by
  obtain ⟨i, _, h⟩ := Finset.exists_mem_eq_inf (Finset.univ : Finset (Fin 64)) ⟨0, Finset.mem_univ _⟩ fun j => (W j.val : EReal)
  have : loE W = ((W i.val : ℝ) : EReal) := h
  rw [lo, this, EReal.toReal_coe]

theorem hi_coe : hiE W = ((hi W : ℝ) : EReal) := by
  obtain ⟨i, _, h⟩ := Finset.exists_mem_eq_sup (Finset.univ : Finset (Fin 64)) ⟨0, Finset.mem_univ _⟩ fun j => (W j.val : EReal)
  have : hiE W = ((W i.val : ℝ) : EReal) := h
  rw [hi, this, EReal.toReal_coe]

theorem lo_le_hi : lo W ≤ hi W := by
  have h : loE W ≤ hiE W := (Finset.inf_le (Finset.mem_univ (0 : Fin 64))).trans (Finset.le_sup (f := fun j : Fin 64 => (W j.val : EReal)) (Finset.mem_univ (0 : Fin 64)))
  rw [lo_coe, hi_coe] at h
  exact_mod_cast h

/-- The scale. -/
def SR : ℝ := if hi W = lo W then 1 else (hi W - lo W) / 3

theorem SR_pos : 0 < SR W := by
  unfold SR
  split
  · norm_num
  · rename_i h
    have := lo_le_hi W
    have : lo W < hi W := lt_of_le_of_ne this (Ne.symm h)
    linarith

/-- The zero point after `n` iterations, the weight of the errors' norm growing by a hundredth in each. -/
def zR : ℕ → ℝ
  | 0 => (0 - lo W) / SR W
  | n + 1 => zR n - (∑ j : Fin 64, shr (SR W) (10 * (101 / 100) ^ n) (W j.val / SR W + zR n - qr (W j.val / SR W + zR n))) * (1 / 64)

/-- The codes. -/
def codeR (j : ℕ) : ℝ := qr (W j / SR W + zR W 20)

/-- The mean of the errors' norms. -/
def lpR : ℝ := SR W ^ (7 / 10 : ℝ) * ((∑ j : Fin 64, |W j.val / SR W + zR W 20 - codeR W j.val| ^ (7 / 10 : ℝ)) * (1 / 64))

/-! ## The kernel's constants -/

theorem k_lp : (Named.named κ "lp_norm" 0x3F333333#32 : Ideal .f32) = ((7 / 10 : ℝ) : EReal) := IdealRules.named_const.ideal_named_scalar _ _ _ _ rfl
theorem k_less : (Named.named κ "lp_less_two" 0xBFA66666#32 : Ideal .f32) = ((-13 / 10 : ℝ) : EReal) := IdealRules.named_const.ideal_named_scalar _ _ _ _ rfl
theorem k_init : (Named.named κ "log2_beta_init" 0x40549A78#32 : Ideal .f32) = ((Real.log 10 * (Real.log 2)⁻¹ : ℝ) : EReal) := IdealRules.named_const.ideal_named_scalar _ _ _ _ rfl
theorem k_growth : (Named.named κ "log2_beta_growth" 0x3C6B3276#32 : Ideal .f32) = ((Real.log (101 / 100) * (Real.log 2)⁻¹ : ℝ) : EReal) := IdealRules.named_const.ideal_named_scalar _ _ _ _ rfl

theorem pay1366_at : (k0_pay1366 : V8 Ideal) jz = ((-13 / 10 : ℝ) : EReal) := k_less
theorem pay1365_at : (k0_pay1365 : V8 Ideal) jz = ((7 / 10 : ℝ) : EReal) := k_lp

/-! ## The kernel's row -/

theorem fold4_at (op : V8 Ideal → V8 Ideal → V8 Ideal) (op' : EReal → EReal → EReal) (h : ∀ a b, op a b jz = op' (a jz) (b jz)) (f : ℕ → V8 Ideal) :
    fold4 op f jz = fold4 op' fun m => f m jz := fold4_map (fun v : V8 Ideal => (v jz : EReal)) op op' h f

theorem mn_at : mnV (everyLane (up W)) jz = ((lo W : ℝ) : EReal) := by
  rw [mnV, fold4_at _ min (fun _ _ => rfl), ← lo_coe]
  exact fold4_min _

theorem mx_at : mxV (everyLane (up W)) jz = ((hi W : ℝ) : EReal) := by
  rw [mxV, fold4_at _ max (fun _ _ => rfl), ← hi_coe]
  exact fold4_max _

theorem rowS_coe : rowS (up W) = ((SR W : ℝ) : EReal) := by
  show (if Ideal.cmp .oeq (mxV (everyLane (up W)) jz) (mnV (everyLane (up W)) jz) = 1#1 then Ideal.ofBits .f32 0x3F800000#32
    else Ideal.div (mxV (everyLane (up W)) jz - mnV (everyLane (up W)) jz) (Ideal.ofBits .f32 0x40400000#32)) = _
  rw [mx_at, mn_at, c1, c3, ← EReal.coe_sub, div_coe _ _ (by norm_num)]
  unfold SR Ideal.cmp
  by_cases h : hi W = lo W
  · simp [h]
  · have : ¬((hi W : EReal) = (lo W : EReal)) := by exact_mod_cast h
    simp [h, this]

theorem sV_coe : sV (everyLane (up W)) = fun _ => ((SR W : ℝ) : EReal) := by
  funext j; exact rowS_coe W

theorem uV_coe (m : ℕ) : uV (everyLane (up W)) m = fun _ => ((W m / SR W : ℝ) : EReal) := by
  funext j
  show Ideal.div ((W m : ℝ) : EReal) (sV (everyLane (up W)) j) = _
  rw [sV_coe, div_coe _ _ (SR_pos W).ne']

theorem rowZ0_coe : rowZ0 (up W) = ((zR W 0 : ℝ) : EReal) := by
  show Ideal.div (Ideal.ofBits .f32 0x00000000#32 - mnV (everyLane (up W)) jz) (sV (everyLane (up W)) jz) = _
  rw [mn_at, sV_coe, c0, ← EReal.coe_sub, div_coe _ _ (SR_pos W).ne']; rfl

theorem lc0_coe : lc0V (everyLane (up W)) jz = ((lcR (SR W) 10 : ℝ) : EReal) := by
  show (k0_pay1366 : V8 Ideal) jz * Ideal.div (Ideal.log (sV (everyLane (up W)) jz)) (Ideal.log (Ideal.ofBits .f32 0x40000000#32)) - (Named.named κ "log2_beta_init" 0x40549A78#32 : Ideal .f32) = _
  rw [pay1366_at, sV_coe, c2, lg2_coe _ (SR_pos W), k_init, ← EReal.coe_mul, ← EReal.coe_sub]
  congr 1

theorem clip_coe (t : ℝ) (j) : clipV (F := Ideal) (fun _ => ((t : ℝ) : EReal)) j = ((qr t : ℝ) : EReal) := by
  show min (max (min (max (Ideal.liftRound Ideal.roundHalfEven (t : EReal)) (Ideal.ofBits .f32 0x00000000#32)) (Ideal.ofBits .f32 0x40400000#32)) (Ideal.ofBits .f32 0x00000000#32)) (Ideal.ofBits .f32 0x40400000#32) = _
  rw [c0, c3, qr_ker]

theorem add_coe (a b : ℝ) : (addf (fun _ => ((a : ℝ) : EReal)) (fun _ => ((b : ℝ) : EReal)) : V8 Ideal) = fun _ => ((a + b : ℝ) : EReal) := by
  funext j; exact (EReal.coe_add a b).symm

theorem shrV_coe (u z S β : ℝ) (hS : 0 < S) (hβ : 0 < β) :
    shrV (F := Ideal) k0_pay1366 (fun _ => ((u : ℝ) : EReal)) (fun _ => ((z : ℝ) : EReal)) (fun _ => ((lcR S β : ℝ) : EReal)) jz = ((shr S β (u + z - qr (u + z)) : ℝ) : EReal) := by
  have e : (subf (fun _ => ((u + z : ℝ) : EReal)) (clipV (F := Ideal) (fun _ => ((u + z : ℝ) : EReal))) : V8 Ideal) = fun _ => ((u + z - qr (u + z) : ℝ) : EReal) := by
    funext j
    show ((u + z : ℝ) : EReal) - clipV (F := Ideal) (fun _ => ((u + z : ℝ) : EReal)) j = _
    rw [clip_coe, EReal.coe_sub (u + z)]
  unfold shrV
  rw [add_coe, e]
  rw [← shr_ker S β _ hS hβ, ← c2, ← c1, ← pay1366_at]
  rfl

theorem rowFit_coe : ∀ n, rowFit (up W) n = (((zR W n : ℝ) : EReal), ((lcR (SR W) (10 * (101 / 100) ^ n) : ℝ) : EReal))
  | 0 => by
    rw [rowFit, rowZ0_coe, lc0_coe, pow_zero, mul_one]
  | n + 1 => by
    have hβ : (0 : ℝ) < 10 * (101 / 100) ^ n := by positivity
    rw [rowFit, rowFit_coe n]
    refine Prod.ext ?_ ?_
    · show ((zR W n : ℝ) : EReal) - fold4 addf (fun m => shrV k0_pay1366 (uV (everyLane (up W)) m) (fun _ => ((zR W n : ℝ) : EReal)) (fun _ => ((lcR (SR W) (10 * (101 / 100) ^ n) : ℝ) : EReal))) jz * Ideal.ofBits .f32 0x3C800000#32 = _
      rw [fold4_at _ (fun a b => a + b) (fun _ _ => rfl)]
      simp only [uV_coe, shrV_coe _ _ _ _ (SR_pos W) hβ]
      rw [fold4_coe fun m => shr (SR W) (10 * (101 / 100) ^ n) (W m / SR W + zR W n - qr (W m / SR W + zR W n)), c1_64, ← EReal.coe_mul, ← EReal.coe_sub]
      rfl
    · show ((lcR (SR W) (10 * (101 / 100) ^ n) : ℝ) : EReal) - (Named.named κ "log2_beta_growth" 0x3C6B3276#32 : Ideal .f32) = _
      rw [k_growth, ← EReal.coe_sub]
      congr 1
      unfold lcR
      have h : Real.log (10 * (101 / 100) ^ (n + 1) : ℝ) = Real.log (10 * (101 / 100) ^ n : ℝ) + Real.log (101 / 100) := by
        rw [pow_succ, ← mul_assoc, Real.log_mul hβ.ne' (by norm_num)]
      rw [h]; ring

theorem rowZ_coe : rowZ (up W) = ((zR W 20 : ℝ) : EReal) := by rw [rowZ, rowFit_coe]

theorem rowQ_coe (m : ℕ) : rowQ (up W) m = ((codeR W m : ℝ) : EReal) := by
  rw [rowQ, uV_coe, rowZ_coe, add_coe, clip_coe]; rfl

theorem rowShift_coe : rowShift (up W) = ((zR W 20 - zR W 0 : ℝ) : EReal) := by
  show rowZ (up W) - rowZ0 (up W) = _
  rw [rowZ_coe, rowZ0_coe, EReal.coe_sub]

theorem errV_coe (t : ℝ) : errV (F := Ideal) k0_pay1365 (fun _ => ((t : ℝ) : EReal)) jz = ((|t - qr t| ^ (7 / 10 : ℝ) : ℝ) : EReal) := by
  have e : (subf (fun _ => ((t : ℝ) : EReal)) (clipV (F := Ideal) (fun _ => ((t : ℝ) : EReal))) : V8 Ideal) = fun _ => ((t - qr t : ℝ) : EReal) := by
    funext j
    show ((t : ℝ) : EReal) - clipV (F := Ideal) (fun _ => ((t : ℝ) : EReal)) j = _
    rw [clip_coe, EReal.coe_sub t]
  unfold errV
  rw [e, ← err_ker, ← c2, ← pay1365_at]
  rfl

theorem rowLp_coe : rowLp (up W) = ((lpR W : ℝ) : EReal) := by
  show Ideal.exp2 ((k0_pay1365 : V8 Ideal) jz * Ideal.div (Ideal.log (rowS (up W))) (Ideal.log (Ideal.ofBits .f32 0x40000000#32)))
    * (fold4 addf (fun m => errV k0_pay1365 (addf (uV (everyLane (up W)) m) fun _ => rowZ (up W))) jz * Ideal.ofBits .f32 0x3C800000#32) = _
  rw [pay1365_at, rowS_coe, c2, scale_ker _ (SR_pos W), fold4_at _ (fun a b => a + b) (fun _ _ => rfl)]
  simp only [uV_coe, rowZ_coe, add_coe, errV_coe]
  rw [fold4_coe fun m => |W m / SR W + zR W 20 - qr (W m / SR W + zR W 20)| ^ (7 / 10 : ℝ), c1_64, ← EReal.coe_mul, ← EReal.coe_mul]
  rfl

end Cert.Fit
end
-- ==== Proof.RefFit.lean ====
/-
  The reference on a finite argument: its members, scales and zero points as reals, carried through the loop.
-/
module

public import proofs.«01_k».proof.Proof.RefStep
public import proofs.«01_k».proof.Proof.KernelRow

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Fit

variable (x : S2x5760x2880.Idx → ℝ)

/-- The argument, as the program holds it. -/
abbrev upX : S2x5760x2880.Idx → Ideal .bf16 := fun i => ((x i : ℝ) : EReal)

/-- The members of group `g` of row `n` of matrix `a`. -/
def grp (a : Fin 2) (n : Fin 5760) (g : ℕ) : ℕ → ℝ := fun j =>
  if j / 2 < 32 then x (ix3 a n (⟨(64 * g + j) % 2880, Nat.mod_lt _ (by decide)⟩ : Fin 2880)) else 0

/-- The reference's arrays, as reals. -/
def WA : S2x45x64x5760.Idx → ℝ := fun i => grp x (i 0) (i 3) (i 1).val (i 2).val
def SA : S2x45x1x5760.Idx → ℝ := fun i => SR (grp x (i 0) (i 3) (i 1).val)
def ZA (k : ℕ) : S2x45x1x5760.Idx → ℝ := fun i => zR (grp x (i 0) (i 3) (i 1).val) k

theorem eq_gi (i : S2x45x1x5760.Idx) : ∃ (a : Fin 2) (g : Fin 45) (n : Fin 5760), i = gi a g n := by
  refine ⟨i 0, i 1, i 3, ?_⟩
  funext b
  match b with
  | ⟨0, _⟩ => rfl
  | ⟨1, _⟩ => rfl
  | ⟨2, _⟩ => apply Fin.ext; show (i 2).val = 0; have : (i 2).val < 1 := (i 2).isLt; omega
  | ⟨3, _⟩ => rfl

theorem eq_mi (i : S2x45x64x5760.Idx) : ∃ (a : Fin 2) (g : Fin 45) (j : Fin 64) (n : Fin 5760), i = mi a g j n := by
  refine ⟨i 0, i 1, i 2, i 3, ?_⟩
  funext b
  match b with
  | ⟨0, _⟩ => rfl
  | ⟨1, _⟩ => rfl
  | ⟨2, _⟩ => rfl
  | ⟨3, _⟩ => rfl

theorem rW_at (X : S2x5760x2880.Idx → Ideal .bf16) (a : Fin 2) (g : Fin 45) (j : Fin 64) (n : Fin 5760) :
    rW X (mi a g j n) = X (ix3 a n (⟨64 * g.val + j.val, by omega⟩ : Fin 2880)) := by
  unfold rW
  pointwise
  refine congrArg X ?_
  funext b
  match b with
  | ⟨0, _⟩ => rfl
  | ⟨1, _⟩ => rfl
  | ⟨2, _⟩ => apply Fin.ext; simp; try omega

theorem rW_coe : rW (upX x) = fun i => ((WA x i : ℝ) : EReal) := by
  funext i
  obtain ⟨a, g, j, n, rfl⟩ := eq_mi i
  rw [rW_at]
  show ((x _ : ℝ) : EReal) = ((grp x a n g.val j.val : ℝ) : EReal)
  have h1 := g.isLt
  have h2 := j.isLt
  rw [grp, if_pos (by omega)]
  congr 3
  apply Fin.ext
  show 64 * g.val + j.val = (64 * g.val + j.val) % 2880
  omega

theorem rLo_coe (a : Fin 2) (g : Fin 45) (n : Fin 5760) : rLo (upX x) (gi a g n) = ((lo (grp x a n g.val) : ℝ) : EReal) := by
  unfold rLo
  rw [rW_coe, ← lo_coe]
  pointwise
  rw [ctop]
  rfl

theorem rHi_coe (a : Fin 2) (g : Fin 45) (n : Fin 5760) : rHi (upX x) (gi a g n) = ((hi (grp x a n g.val) : ℝ) : EReal) := by
  unfold rHi
  rw [rW_coe, ← hi_coe]
  pointwise
  rw [cbot]
  rfl

theorem sel_at (A B : S2x45x1x5760.Idx → Ideal .f32) (i : S2x45x1x5760.Idx) :
    (select (cmpf .oeq A B) (broadcastInDim S2x45x1x5760 ![] bcast_S_S2x45x1x5760 (constant S_ .f32 0x3F800000#32))
      (Host.divf (subf A B) (broadcastInDim S2x45x1x5760 ![] bcast_S_S2x45x1x5760 (constant S_ .f32 0x40400000#32)))) i
      = (if Ideal.cmp .oeq (A i) (B i) = 1#1 then Ideal.ofBits .f32 0x3F800000#32 else Ideal.div (A i - B i) (Ideal.ofBits .f32 0x40400000#32)) := rfl

theorem start_at (A B : S2x45x1x5760.Idx → Ideal .f32) (i : S2x45x1x5760.Idx) :
    (Host.divf (subf (broadcastInDim S2x45x1x5760 ![] bcast_S_S2x45x1x5760 (constant S_ .f32 0x00000000#32)) A) B) i = Ideal.div (Ideal.ofBits .f32 0x00000000#32 - A i) (B i) := rfl

theorem rS_at (X : S2x5760x2880.Idx → Ideal .bf16) (i : S2x45x1x5760.Idx) : rS X i = (if Ideal.cmp .oeq (rHi X i) (rLo X i) = 1#1 then Ideal.ofBits .f32 0x3F800000#32
    else Ideal.div (rHi X i - rLo X i) (Ideal.ofBits .f32 0x40400000#32)) := by
  unfold rS
  exact sel_at _ _ _

theorem rZ0_at (X : S2x5760x2880.Idx → Ideal .bf16) (i : S2x45x1x5760.Idx) : rZ0 X i = Ideal.div (Ideal.ofBits .f32 0x00000000#32 - rLo X i) (rS X i) := by
  unfold rZ0
  exact start_at _ _ _

theorem rS_coe : rS (upX x) = fun i => ((SA x i : ℝ) : EReal) := by
  funext i
  obtain ⟨a, g, n, rfl⟩ := eq_gi i
  rw [rS_at, show SA x (gi a g n) = SR (grp x a n g.val) from rfl, rHi_coe, rLo_coe, c1, c3, ← EReal.coe_sub, div_coe _ _ (by norm_num)]
  unfold SR Ideal.cmp
  by_cases h : hi (grp x a n g.val) = lo (grp x a n g.val)
  · simp only [h, decide_true, if_true]; rfl
  · have : ¬((hi (grp x a n g.val) : EReal) = (lo (grp x a n g.val) : EReal)) := by exact_mod_cast h
    simp only [h, this, decide_false, if_false]; rfl

theorem SA_pos : ∀ i, 0 < SA x i := fun _ => SR_pos _

theorem rZ0_coe : rZ0 (upX x) = fun i => ((ZA x 0 i : ℝ) : EReal) := by
  funext i
  obtain ⟨a, g, n, rfl⟩ := eq_gi i
  rw [rZ0_at, rLo_coe, congrFun (rS_coe x) (gi a g n), c0, ← EReal.coe_sub, div_coe _ _ (SA_pos x _).ne']
  rfl

/-- After `k` iterations the loop carries the real fit. -/
theorem carries (E : Valuation τ sig (Elt Ideal)) (h : Carries E (WA x) (SA x) (ZA x 0) 10) :
    ∀ k, Carries (STEP^[k] E) (WA x) (SA x) (ZA x k) (10 * (101 / 100) ^ k)
  | 0 => by rw [pow_zero, mul_one]; exact h
  | k + 1 => by
    rw [Function.iterate_succ_apply']
    have ih := carries E h k
    have hβ : (0 : ℝ) < 10 * (101 / 100) ^ k := by positivity
    refine ⟨?_, ?_, ?_, ?_⟩
    · rw [STEP_main_v15_0]; exact ih.w
    · rw [STEP_main_v15_1]; exact ih.s
    · rw [STEP_main_v15_4]
      funext i
      obtain ⟨a, g, n, rfl⟩ := eq_gi i
      exact step_at a g n ih (SA_pos x) hβ
    · rw [STEP_main_v15_5]
      funext i
      show b5 (STEP^[k] E) i * Ideal.div (Ideal.ofBits .f32 0x42CA0000#32) (Ideal.ofBits .f32 0x42C80000#32) = _
      rw [ih.b', c101, c100, div_coe _ _ (by norm_num), ← EReal.coe_mul, pow_succ, mul_assoc]

end Cert.ReferenceIdeal.Hand
end
-- ==== Proof.RefResults.lean ====
/-
  The reference's four number results on a finite argument, at one group.
-/
module

public import proofs.«01_k».proof.Proof.RefFit

@[expose] public section

noncomputable section

namespace Cert.Fit

open Idealize.ShloMosaic

/-- The code of a scaled member as an integer and as a natural number. -/
def qz (t : ℝ) : ℤ := min 3 (max 0 (Ideal.roundHalfEven t))
def qn (t : ℝ) : ℕ := (qz t).toNat

theorem qz_nonneg (t : ℝ) : 0 ≤ qz t := le_min (by norm_num) (le_max_left _ _)
theorem qz_le (t : ℝ) : qz t ≤ 3 := min_le_left _ _
theorem qr_int (t : ℝ) : qr t = ((qz t : ℤ) : ℝ) := by
  unfold qr qz; push_cast; rfl
theorem qn_lt (t : ℝ) : qn t < 4 := by
  have h0 := qz_nonneg t; have h3 := qz_le t
  unfold qn; omega
theorem qz_nat (t : ℝ) : qz t = ((qn t : ℕ) : ℤ) := (Int.toNat_of_nonneg (qz_nonneg t)).symm
theorem qr_nat (t : ℝ) : qr t = ((qn t : ℕ) : ℝ) := by rw [qr_int, qz_nat]; norm_cast

/-- A natural number below `2 ^ 31` converts to itself. -/
theorem fptosi_nat (k : ℕ) (hk : k < 2 ^ 31) : Ideal.fptosi 32 (((k : ℕ) : ℝ) : EReal) = BitVec.ofNat 32 k := by
  show BitVec.ofInt 32 (max (-(2 ^ (32 - 1) : ℕ)) (min ((2 ^ (32 - 1) : ℕ) - 1) (if 0 ≤ ((k : ℕ) : ℝ) then ⌊((k : ℕ) : ℝ)⌋ else ⌈((k : ℕ) : ℝ)⌉))) = _
  rw [if_pos (Nat.cast_nonneg k), Int.floor_natCast]
  have h : max (-((2 ^ (32 - 1) : ℕ) : ℤ)) (min (((2 ^ (32 - 1) : ℕ) : ℤ) - 1) (k : ℤ)) = (k : ℤ) := by
    norm_num; omega
  rw [h, BitVec.ofInt_natCast]

theorem toInt_nat (k : ℕ) (hk : k < 2 ^ 31) : ((BitVec.ofNat 32 k).toInt : ℝ) = ((k : ℕ) : ℝ) := by
  have : (BitVec.ofNat 32 k).toInt = (k : ℤ) := by
    rw [BitVec.toInt_eq_toNat_of_lt (by rw [BitVec.toNat_ofNat]; omega), BitVec.toNat_ofNat]
    omega
  rw [this]; norm_cast

end Cert.Fit

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Fit

variable (a : Fin 2) (g : Fin 45) (j : Fin 64) (n : Fin 5760)

theorem rGroup_at (A : S2x45x1x5760.Idx → Ideal .f32) : rGroup A (ix3 a n g) = A (gi a g n) := by
  unfold rGroup
  pointwise

theorem lpMean_at (T : S2x45x64x5760.Idx → Ideal .f32) :
    (transpose S2x5760x45 [0, 2, 1] (Host.divf (Host.reduceAdd T (constant S_ .f32 0x00000000#32) reducesTo_S2x45x64x5760_S2x45x5760_d2 h_S_)
      (broadcastInDim S2x45x5760 ![] bcast_S_S2x45x5760 (constant S_ .f32 0x42800000#32))) transposes_S2x45x5760_S2x5760x45_0_2_1 : S2x5760x45.Idx → Ideal .f32) (ix3 a n g)
      = Ideal.div (∑ j : Fin 64, T (mi a g j n)) (Ideal.ofBits .f32 0x42800000#32) := by
  pointwise

variable (W : S2x45x64x5760.Idx → ℝ) (S Z : S2x45x1x5760.Idx → ℝ)

theorem rC_at (hS : ∀ i, 0 < S i) : rC (F := Ideal) (fun i => ((W i : ℝ) : EReal)) (fun i => ((S i : ℝ) : EReal)) (fun i => ((Z i : ℝ) : EReal)) (mi a g j n)
    = BitVec.ofNat 32 (qn (W (mi a g j n) / S (gi a g n) + Z (gi a g n))) := by
  show Ideal.fptosi 32 (rQ (F := Ideal) (fun i => ((W i : ℝ) : EReal)) (fun i => ((S i : ℝ) : EReal)) (fun i => ((Z i : ℝ) : EReal)) (mi a g j n)) = _
  rw [rQ_at a g j n W S Z hS, qr_nat, fptosi_nat _ ((qn_lt _).trans (by norm_num))]

theorem rLp_at (hS : ∀ i, 0 < S i) : rLp (F := Ideal) (fun i => ((W i : ℝ) : EReal)) (fun i => ((S i : ℝ) : EReal)) (fun i => ((Z i : ℝ) : EReal)) (ix3 a n g)
    = ((S (gi a g n) ^ (7 / 10 : ℝ) * ((∑ j : Fin 64, |W (mi a g j n) / S (gi a g n) + Z (gi a g n) - qr (W (mi a g j n) / S (gi a g n) + Z (gi a g n))| ^ (7 / 10 : ℝ)) * (1 / 64)) : ℝ) : EReal) := by
  unfold rLp
  refine (lpMean_at a g n _).trans ?_
  have key : ∀ j : Fin 64, (Host.powf (Host.absf (subf (fun i => ((W i : ℝ) : EReal)) (mulf (subf (sitofp .f32 (rC (F := Ideal) (fun i => ((W i : ℝ) : EReal)) (fun i => ((S i : ℝ) : EReal)) (fun i => ((Z i : ℝ) : EReal)))) (onMembers (fun i => ((Z i : ℝ) : EReal)))) (onMembers (fun i => ((S i : ℝ) : EReal))))))
      (broadcastInDim S2x45x64x5760 ![] bcast_S_S2x45x64x5760 (Host.divf (constant S_ .f32 0x40E00000#32) (constant S_ .f32 0x41200000#32))) : S2x45x64x5760.Idx → Ideal .f32) (mi a g j n)
      = ((S (gi a g n) ^ (7 / 10 : ℝ) * |W (mi a g j n) / S (gi a g n) + Z (gi a g n) - qr (W (mi a g j n) / S (gi a g n) + Z (gi a g n))| ^ (7 / 10 : ℝ) : ℝ) : EReal) := by
    intro j
    have hC := rC_at a g j n W S Z hS
    generalize rC (F := Ideal) (fun i => ((W i : ℝ) : EReal)) (fun i => ((S i : ℝ) : EReal)) (fun i => ((Z i : ℝ) : EReal)) = C at hC ⊢
    show Ideal.pow (max (((W (mi a g j n) : ℝ) : EReal) - ((((C (mi a g j n)).toInt : ℝ) : EReal) - onMembers (F := Ideal) (fun i => ((Z i : ℝ) : EReal)) (mi a g j n)) * onMembers (F := Ideal) (fun i => ((S i : ℝ) : EReal)) (mi a g j n))
      (-(((W (mi a g j n) : ℝ) : EReal) - ((((C (mi a g j n)).toInt : ℝ) : EReal) - onMembers (F := Ideal) (fun i => ((Z i : ℝ) : EReal)) (mi a g j n)) * onMembers (F := Ideal) (fun i => ((S i : ℝ) : EReal)) (mi a g j n))))
      (Ideal.div (Ideal.ofBits .f32 0x40E00000#32) (Ideal.ofBits .f32 0x41200000#32)) = _
    rw [hC, toInt_nat _ ((qn_lt _).trans (by norm_num)), ← qr_nat, onMembers_at, onMembers_at, c7, c10, div_coe _ _ (by norm_num : (10 : ℝ) ≠ 0), ← EReal.coe_sub, ← EReal.coe_mul, ← EReal.coe_sub, abs_coe, pow_coe]
    congr 1
    have hp := hS (gi a g n)
    generalize qr (W (mi a g j n) / S (gi a g n) + Z (gi a g n)) = q
    have e : W (mi a g j n) - (q - Z (gi a g n)) * S (gi a g n) = S (gi a g n) * (W (mi a g j n) / S (gi a g n) + Z (gi a g n) - q) := by field_simp; ring
    rw [e, abs_mul, abs_of_pos hp, Real.mul_rpow hp.le (abs_nonneg _)]
  refine (congrArg (fun s => Ideal.div s (Ideal.ofBits .f32 0x42800000#32)) ((Finset.sum_congr rfl fun j _ => key j).trans (coe_sum64 _))).trans ?_
  show Ideal.div _ _ = _
  rw [c64, div_coe _ _ (by norm_num : (64 : ℝ) ≠ 0), ← Finset.mul_sum]
  congr 1
  ring

end Cert.ReferenceIdeal.Hand
end
-- ==== Proof.RefRun.lean ====
/-
  What a run of the reference on a finite argument leaves in its five results.
-/
module

public import proofs.«01_k».proof.Proof.RefResults

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Fit

theorem congr3 {α β γ δ : Type} (f : α → β → γ → δ) {a a' : α} {b b' : β} {c c' : γ} (ha : a = a') (hb : b = b') (hc : c = c') :
    f a b c = f a' b' c' := by
  subst ha hb hc; rfl

variable (m : (ℓ : Loc nD τ sig) → Buf (Elt Ideal) ℓ) (c : Dev nD) (x : S2x5760x2880.Idx → ℝ)

/-- The argument of device `c` is the array of the real numbers `x`. -/
abbrev Holds : Prop := m ((c.tc : Thread nD τ).loc main_arg0) = upX x

variable (hx : Holds m c x)

/-- The contents after the loop. -/
abbrev leftBy : Valuation τ sig (Elt Ideal) := after condOps (atTrip condOps bodyI (entryContents preI m) 20 c)

include hx

theorem entry_carries : Carries (entryContents preI m c) (WA x) (SA x) (ZA x 0) 10 := by
  have hl : launchContents m c (Proc.devRef .tc main_arg0) = upX x := hx
  refine ⟨?_, ?_, ?_, ?_⟩
  · exact (pre_v15_0 _).trans ((congrArg rW hl).trans (rW_coe x))
  · exact (pre_v15_1 _).trans ((congrArg rS hl).trans (rS_coe x))
  · exact (pre_v15_4 _).trans ((congrArg rZ0 hl).trans (rZ0_coe x))
  · exact (pre_v15_5 _).trans (funext fun _ => c10)

theorem left_v15_4 : leftBy m c (Proc.devRef .tc main_v15_4) = fun i => ((ZA x 20 i : ℝ) : EReal) := by
  have h1 := cond_keeps (atTrip condOps bodyI (entryContents preI m) 20 c) main_v15_4 (by decide)
  have h2 := atK_agree m c 20 main_v15_4 (by decide)
  exact h1.trans (h2.trans (carries x _ (entry_carries m c x hx) 20).z)

theorem left_v2 : leftBy m c (Proc.devRef .tc main_v2) = fun i => ((WA x i : ℝ) : EReal) := by
  have hl : launchContents m c (Proc.devRef .tc main_arg0) = upX x := hx
  refine (after_of_writes_sub condOps _ condOps_writes (by decide)).trans ?_
  refine (loop_keep m c main_v2 (by decide) (by decide) (by decide) (by decide) (by decide) (by decide) (by decide) (by decide) 20).trans ?_
  exact (pre_v2 _).trans ((congrArg rW hl).trans (rW_coe x))

theorem left_v11 : leftBy m c (Proc.devRef .tc main_v11) = fun i => ((SA x i : ℝ) : EReal) := by
  have hl : launchContents m c (Proc.devRef .tc main_arg0) = upX x := hx
  refine (after_of_writes_sub condOps _ condOps_writes (by decide)).trans ?_
  refine (loop_keep m c main_v11 (by decide) (by decide) (by decide) (by decide) (by decide) (by decide) (by decide) (by decide) 20).trans ?_
  exact (pre_v11 _).trans ((congrArg rS hl).trans (rS_coe x))

theorem left_v14 : leftBy m c (Proc.devRef .tc main_v14) = fun i => ((ZA x 0 i : ℝ) : EReal) := by
  have hl : launchContents m c (Proc.devRef .tc main_arg0) = upX x := hx
  refine (after_of_writes_sub condOps _ condOps_writes (by decide)).trans ?_
  refine (loop_keep m c main_v14 (by decide) (by decide) (by decide) (by decide) (by decide) (by decide) (by decide) (by decide) 20).trans ?_
  exact (pre_v14 _).trans ((congrArg rZ0 hl).trans (rZ0_coe x))

theorem final_v62 : finalContents condOps preI bodyI postI 20 m c (Proc.devRef .tc main_v62) = rGroup (F := Ideal) fun i => ((SA x i : ℝ) : EReal) :=
  (post_v62 _).trans (congrArg rGroup (left_v11 m c x hx))
theorem final_v64 : finalContents condOps preI bodyI postI 20 m c (Proc.devRef .tc main_v64) = rGroup (F := Ideal) fun i => ((ZA x 20 i : ℝ) : EReal) :=
  (post_v64 _).trans (congrArg rGroup (left_v15_4 m c x hx))
theorem final_v39 : finalContents condOps preI bodyI postI 20 m c (Proc.devRef .tc main_v39)
    = rGroup (F := Ideal) (subf (fun i => ((ZA x 20 i : ℝ) : EReal)) (fun i => ((ZA x 0 i : ℝ) : EReal))) :=
  (post_v39 _).trans (congrArg rGroup (congrArg₂ subf (left_v15_4 m c x hx) (left_v14 m c x hx)))
theorem final_v36 : finalContents condOps preI bodyI postI 20 m c (Proc.devRef .tc main_v36)
    = rLp (F := Ideal) (fun i => ((WA x i : ℝ) : EReal)) (fun i => ((SA x i : ℝ) : EReal)) (fun i => ((ZA x 20 i : ℝ) : EReal)) := by
  exact (post_v36 _).trans (congr3 rLp (left_v2 m c x hx) (left_v11 m c x hx) (left_v15_4 m c x hx))
theorem final_v60 : finalContents condOps preI bodyI postI 20 m c (Proc.devRef .tc main_v60)
    = rPack (rC (F := Ideal) (fun i => ((WA x i : ℝ) : EReal)) (fun i => ((SA x i : ℝ) : EReal)) (fun i => ((ZA x 20 i : ℝ) : EReal))) := by
  exact (post_v60 _).trans (congrArg rPack (congr3 rC (left_v2 m c x hx) (left_v11 m c x hx) (left_v15_4 m c x hx)))

end Cert.ReferenceIdeal.Hand
end
-- ==== Proof.Codes.lean ====
/-
  Bytes of codes: a word of sixteen codes built as two polynomials in four is, byte by byte, the bytes of four codes
  built by shifts.
-/
module

public import proofs.«01_k».proof.Proof.RefResults

@[expose] public section

noncomputable section

namespace Cert.Fit

open Idealize.ShloMosaic
open Cert.KernelIdeal.Hand (hornV wordV everyLane rowQ rowWord jz)

/-- A byte of four codes. -/
def byte4 (q : ℕ → ℕ) : ℕ := q 0 + 4 * q 1 + 16 * q 2 + 64 * q 3

theorem byte4_lt (q : ℕ → ℕ) (h : ∀ j, q j < 4) : byte4 q < 256 := by
  have := h 0; have := h 1; have := h 2; have := h 3; unfold byte4; omega

/-- Four codes packed by shifts. -/
theorem pack4_fin : ∀ a b c d : Fin 4,
    ((BitVec.ofNat 32 a.val ||| (BitVec.ofNat 32 b.val <<< 2#32) ||| (BitVec.ofNat 32 c.val <<< 4#32) ||| (BitVec.ofNat 32 d.val <<< 6#32)).setWidth 8 : BitVec 8)
      = BitVec.ofNat 8 (a.val + 4 * b.val + 16 * c.val + 64 * d.val) := by
  decide +kernel

theorem pack4 (q : ℕ → ℕ) (h : ∀ j, q j < 4) :
    ((BitVec.ofNat 32 (q 0) ||| (BitVec.ofNat 32 (q 1) <<< 2#32) ||| (BitVec.ofNat 32 (q 2) <<< 4#32) ||| (BitVec.ofNat 32 (q 3) <<< 6#32)).setWidth 8 : BitVec 8)
      = BitVec.ofNat 8 (byte4 q) :=
  pack4_fin ⟨q 0, h 0⟩ ⟨q 1, h 1⟩ ⟨q 2, h 2⟩ ⟨q 3, h 3⟩

/-- The polynomial in four of eight codes, as the kernel evaluates it. -/
def hornN (q : ℕ → ℕ) (b : ℕ) : ℕ → ℕ
  | 0 => q (b + 7)
  | n + 1 => hornN q b n * 4 + q (b + 7 - (n + 1))

theorem hornN_bytes (q : ℕ → ℕ) (b : ℕ) : hornN q b 7 = byte4 (fun j => q (b + j)) + 256 * byte4 (fun j => q (b + 4 + j)) := by
  simp only [hornN, byte4]
  have e : ∀ k, k ≤ 7 → b + 7 - (7 - k) = b + k := fun k hk => by omega
  norm_num
  rw [show b + 4 + 1 = b + 5 from rfl, show b + 4 + 2 = b + 6 from rfl, show b + 4 + 3 = b + 7 from rfl]
  have e0 : b + 7 - 7 = b := by omega
  have e1 : b + 7 - 6 = b + 1 := by omega
  have e2 : b + 7 - 5 = b + 2 := by omega
  have e3 : b + 7 - 4 = b + 3 := by omega
  have e4 : b + 7 - 3 = b + 4 := by omega
  have e5 : b + 7 - 2 = b + 5 := by omega
  have e6 : b + 7 - 1 = b + 6 := by omega
  simp only [e0, e1, e2, e3, e4, e5, e6, Nat.add_sub_cancel]
  ring

/-- The bytes of two halves put together. -/
theorem word_byte (a0 a1 a2 a3 : ℕ) (h0 : a0 < 256) (h1 : a1 < 256) (h2 : a2 < 256) (h3 : a3 < 256) (b : ℕ) (hb : b < 4) :
    (((BitVec.ofNat 32 (a0 + 256 * a1) ||| (BitVec.ofNat 32 (a2 + 256 * a3) <<< 16#32)) >>> (8 * b)).setWidth 8 : BitVec 8)
      = BitVec.ofNat 8 (match b with | 0 => a0 | 1 => a1 | 2 => a2 | _ => a3) := by
  have key : (BitVec.ofNat 32 (a0 + 256 * a1) ||| (BitVec.ofNat 32 (a2 + 256 * a3) <<< 16#32)).toNat = a0 + 256 * a1 + 65536 * (a2 + 256 * a3) := by
    rw [BitVec.toNat_or, BitVec.shiftLeft_eq', BitVec.toNat_shiftLeft, BitVec.toNat_ofNat, BitVec.toNat_ofNat, BitVec.toNat_ofNat,
      Nat.mod_eq_of_lt (by omega : a0 + 256 * a1 < 2 ^ 32), Nat.mod_eq_of_lt (by omega : a2 + 256 * a3 < 2 ^ 32),
      Nat.mod_eq_of_lt (by norm_num : 16 < 2 ^ 32)]
    have e : (a2 + 256 * a3) <<< 16 = 65536 * (a2 + 256 * a3) := by rw [Nat.shiftLeft_eq]; ring
    rw [Nat.mod_eq_of_lt (by rw [e]; omega : (a2 + 256 * a3) <<< 16 < 2 ^ 32), Nat.or_comm,
      ← Nat.shiftLeft_add_eq_or_of_lt (by omega : a0 + 256 * a1 < 2 ^ 16), e]
    ring
  apply BitVec.eq_of_toNat_eq
  rw [BitVec.toNat_setWidth, BitVec.toNat_ushiftRight, key, BitVec.toNat_ofNat, Nat.shiftRight_eq_div_pow]
  interval_cases b <;> norm_num <;> omega

/-- The codes of a row of real numbers. -/
def qnat (W : ℕ → ℝ) (j : ℕ) : ℕ := qn (W j / SR W + zR W 20)

theorem qnat_lt (W : ℕ → ℝ) (j : ℕ) : qnat W j < 4 := qn_lt _

theorem rowQ_nat (W : ℕ → ℝ) (j : ℕ) : rowQ (up W) j = (((qnat W j : ℕ) : ℝ) : EReal) := by
  rw [rowQ_coe]; exact congrArg _ (qr_nat _)

theorem hornV_nat (W : ℕ → ℝ) (b : ℕ) : ∀ n, hornV (everyLane (rowQ (up W))) b n jz = (((hornN (qnat W) b n : ℕ) : ℝ) : EReal) := by
  intro n
  induction n with
  | zero => exact rowQ_nat W (b + 7)
  | succ n ih =>
    show hornV (everyLane (rowQ (up W))) b n jz * Ideal.ofBits .f32 0x40800000#32 + rowQ (up W) (b + 7 - (n + 1)) = _
    rw [ih, rowQ_nat, c4, ← EReal.coe_mul, ← EReal.coe_add, hornN]
    push_cast; rfl

theorem rowWord_coe (W : ℕ → ℝ) (wd : ℕ) : rowWord (F := Ideal) (up W) wd
    = (BitVec.ofNat 32 (hornN (qnat W) (16 * wd) 7) ||| (BitVec.ofNat 32 (hornN (qnat W) (16 * wd + 8) 7) <<< 16#32)) := by
  have hlt : ∀ b, hornN (qnat W) b 7 < 2 ^ 31 := fun b => by
    rw [hornN_bytes]
    have := byte4_lt (fun j => qnat W (b + j)) fun j => qnat_lt _ _
    have := byte4_lt (fun j => qnat W (b + 4 + j)) fun j => qnat_lt _ _
    omega
  show (Ideal.fptosi 32 (hornV (everyLane (rowQ (up W))) (16 * wd) 7 jz) ||| IntOp.shli .vector (Ideal.fptosi 32 (hornV (everyLane (rowQ (up W))) (16 * wd + 8) 7 jz)) 16#32) = _
  rw [hornV_nat, hornV_nat, fptosi_nat _ (hlt _), fptosi_nat _ (hlt _)]
  rfl

/-- Byte `b` of word `wd` of a row's codes: the codes of the four members from `16 * wd + 4 * b` on. -/
theorem rowWord_byte (W : ℕ → ℝ) (wd b : ℕ) (hb : b < 4) :
    ((rowWord (F := Ideal) (up W) wd >>> (8 * b)).setWidth 8 : BitVec 8) = BitVec.ofNat 8 (byte4 fun j => qnat W (16 * wd + 4 * b + j)) := by
  rw [rowWord_coe, hornN_bytes, hornN_bytes, word_byte _ _ _ _ (byte4_lt _ fun j => qnat_lt _ _) (byte4_lt _ fun j => qnat_lt _ _)
    (byte4_lt _ fun j => qnat_lt _ _) (byte4_lt _ fun j => qnat_lt _ _) b hb]
  interval_cases b <;> rfl

end Cert.Fit
end
-- ==== Proof.RefPack.lean ====
/-
  The reference's packed codes, byte by byte.
-/
module

public import proofs.«01_k».proof.Proof.Codes

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Fit

variable (a : Fin 2) (g : Fin 45) (t : Fin 16) (n : Fin 5760) (C : S2x45x64x5760.Idx → BitVec 32)

/-- Place `16 * g + t` of a row's packed codes. -/
abbrev place : Fin 720 := ⟨16 * g.val + t.val, by omega⟩

/-- Member `c` of the four at `t` of a group. -/
abbrev member (c : ℕ) (hc : c < 4) : Fin 64 := ⟨t.val * 4 + c, by omega⟩

theorem rFour0_at : rFour C 0 (ix4 a g t n) = C (mi a g (member t 0 (by decide)) n) := by
  unfold rFour
  pointwise
  rfl
theorem rFour1_at : rFour C 1 (ix4 a g t n) = C (mi a g (member t 1 (by decide)) n) := by
  unfold rFour
  pointwise
theorem rFour2_at : rFour C 2 (ix4 a g t n) = C (mi a g (member t 2 (by decide)) n) := by
  unfold rFour
  pointwise
theorem rFour3_at : rFour C 3 (ix4 a g t n) = C (mi a g (member t 3 (by decide)) n) := by
  unfold rFour
  pointwise

theorem bytes_at (B : S2x45x16x5760.Idx → BitVec 8) :
    (shapeCast S2x5760x720 (transpose S2x5760x45x16 [0, 3, 1, 2] B transposes_S2x45x16x5760_S2x5760x45x16_0_3_1_2) shapeCasts_S2x5760x45x16_S2x5760x720) (ix3 a n (place g t))
      = B (ix4 a g t n) := by
  pointwise
  have e1 : (⟨(16 * g.val + t.val) / 16, by omega⟩ : Fin 45) = g := Fin.ext (by show (16 * g.val + t.val) / 16 = g.val; omega)
  have e2 : (⟨(16 * g.val + t.val) % 16, by omega⟩ : Fin 16) = t := Fin.ext (by show (16 * g.val + t.val) % 16 = t.val; omega)
  exact (congrArg (fun u => B (ix4 a u _ n)) e1).trans (congrArg (fun u => B (ix4 a g u n)) e2)

/-- Four words packed into a byte. -/
abbrev packW (c0 c1 c2 c3 : BitVec 32) : BitVec 8 := ((c0 ||| (c1 <<< 2#32) ||| (c2 <<< 4#32) ||| (c3 <<< 6#32)).setWidth 8 : BitVec 8)

theorem shifts_at (A B D E : S2x45x16x5760.Idx → BitVec 32) (i : S2x45x16x5760.Idx) :
    (trunci 8 (ori (ori (ori A (Host.shli B (broadcastInDim S2x45x16x5760 ![] bcast_S_S2x45x16x5760 (constantI S_ 32 2#32))))
      (Host.shli D (broadcastInDim S2x45x16x5760 ![] bcast_S_S2x45x16x5760 (constantI S_ 32 4#32))))
      (Host.shli E (broadcastInDim S2x45x16x5760 ![] bcast_S_S2x45x16x5760 (constantI S_ 32 6#32)))) natLt_8_32 : S2x45x16x5760.Idx → BitVec 8) i
      = packW (A i) (B i) (D i) (E i) := rfl

theorem rPack_at : rPack C (ix3 a n (place g t))
    = packW (C (mi a g (member t 0 (by decide)) n)) (C (mi a g (member t 1 (by decide)) n)) (C (mi a g (member t 2 (by decide)) n)) (C (mi a g (member t 3 (by decide)) n)) := by
  unfold rPack
  rw [bytes_at, shifts_at, rFour0_at, rFour1_at, rFour2_at, rFour3_at]

/-- The packed byte of four codes given as natural numbers. -/
theorem rPack_nat (q : ℕ → ℕ) (hq : ∀ j, q j < 4) (h : ∀ j : Fin 64, C (mi a g j n) = BitVec.ofNat 32 (q j.val)) :
    rPack C (ix3 a n (place g t)) = BitVec.ofNat 8 (byte4 fun j => q (t.val * 4 + j)) := by
  rw [rPack_at, h, h, h, h]
  exact pack4 (fun j => q (t.val * 4 + j)) fun j => hq _

end Cert.ReferenceIdeal.Hand
end
-- ==== Proof.Pieces.lean ====
/-
  What the stores of one trip of the main loop leave in the two result scratches: the trip's sixteen rows hold each row's
  own words and numbers, the rows before are as they were.
-/
module

public import proofs.«01_k».proof.Proof.Rows

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]

/-- Rows below `16 * n` of the scratch of words hold their words. -/
def Words (n : ℕ) (x7 : S17664x128.Idx → F .bf16) (x9 : S1088x128.Idx → BitVec 32) : Prop :=
  ∀ (L wd : ℕ) (h : 4 * L + wd < 1088) (l : Fin 128), L < 16 * n → wd < 4 → x9 (ix2 (n0 := 1088) (n1 := 128) ⟨4 * L + wd, h⟩ l) = rowWord (memb x7 L l) wd

/-- Rows below `16 * n` of the scratch of numbers hold their four numbers. -/
def Nums (n : ℕ) (x7 : S17664x128.Idx → F .bf16) (x10 : S4x272x128.Idx → F .f32) : Prop :=
  ∀ (j : Fin 4) (L : ℕ) (h : L < 272) (l : Fin 128), L < 16 * n → x10 (ix3 (n0 := 4) (n1 := 272) (n2 := 128) j ⟨L, h⟩ l) = rowG (memb x7 L l) j

theorem trips2 (k : Fin k0_t2_loop.trips) : k.val < 17 := Nat.lt_of_lt_of_le k.isLt k0_t2_abs.2.1

theorem off9_eq (k : Fin k0_t2_loop.trips) (b : Fin 2) (wd : Fin 4) :
    k0_off9 k (BitVec.ofNat 32 (8 * b.val)) (BitVec.ofNat 32 wd.val) = ![4 * (16 * k.val + 8 * b.val) + wd.val, 0] := by
  revert k b wd; decide +kernel

/-- Where a half's four numbers go. -/
def offG (k : Fin k0_t2_loop.trips) (b : BitVec 32) : Fin 4 → Fin 3 → ℕ
  | 0 => k0_off10 k b
  | 1 => k0_off11 k b
  | 2 => k0_off12 k b
  | 3 => k0_off13 k b

theorem offG_eq (k : Fin k0_t2_loop.trips) (b : Fin 2) (j : Fin 4) :
    offG k (BitVec.ofNat 32 (8 * b.val)) j = ![j.val, 16 * k.val + 8 * b.val, 0] := by
  revert k b j; decide +kernel

theorem off9_inb (k : Fin k0_t2_loop.trips) (b : Fin 2) (wd : Fin 4) (a : Fin 2) :
    S8x128.size a = 0 ∨ k0_off9 k (BitVec.ofNat 32 (8 * b.val)) (BitVec.ofNat 32 wd.val) a + (![4, 1] : Fin 2 → ℕ) a * (S8x128.size a - 1) < S1088x128.size a := by
  have := trips2 k; have := b.isLt; have := wd.isLt
  rw [off9_eq]
  match a with
  | ⟨0, _⟩ => right; show 4 * (16 * k.val + 8 * b.val) + wd.val + 4 * 7 < 1088; omega
  | ⟨1, _⟩ => right; show 0 + 1 * 127 < 128; omega

theorem pos_4_1 (a : Fin 2) : 0 < (![4, 1] : Fin 2 → ℕ) a := by
  match a with
  | ⟨0, _⟩ => exact Nat.succ_pos 3
  | ⟨1, _⟩ => exact Nat.one_pos

/-- The store of one word of codes of one half. -/
def pc9 (k : Fin k0_t2_loop.trips) (q : Fin 2 → ℕ → V8 F) (b : Fin 2) (wd : Fin 4) : View.Piece (Elt F) S1088x128 .i32 :=
  ⟨{ off := k0_off9 k (BitVec.ofNat 32 (8 * b.val)) (BitVec.ofNat 32 wd.val), size := S8x128.size, stride := ![4, 1],
      inb := off9_inb k b wd, stride_pos := pos_4_1 }, shapeCast S8x128 (wordV (q b) wd.val) rfl⟩

def pcs9 (k : Fin k0_t2_loop.trips) (q : Fin 2 → ℕ → V8 F) : List (View.Piece (Elt F) S1088x128 .i32) :=
  [(1, 3), (1, 2), (1, 1), (1, 0), (0, 3), (0, 2), (0, 1), (0, 0)].map fun p => pc9 k q p.1 p.2

/-- The store of one number of one half. -/
def pc10 (k : Fin k0_t2_loop.trips) (g : Fin 2 → Fin 4 → V8 F) (b : Fin 2) (j : Fin 4) : View.Piece (Elt F) S4x272x128 .f32 :=
  ⟨Rect.unit (s := S4x272x128) (offG k (BitVec.ofNat 32 (8 * b.val)) j) S1x8x128.size (fun a => by
        have := trips2 k; have := b.isLt; have := j.isLt
        rw [offG_eq]
        match a with
        | ⟨0, _⟩ => show j.val + 1 ≤ 4; omega
        | ⟨1, _⟩ => show 16 * k.val + 8 * b.val + 8 ≤ 272; omega
        | ⟨2, _⟩ => show 0 + 128 ≤ 128; omega),
    shapeCast S1x8x128 (g b j) shapeCasts_S8x128_S1x8x128⟩

def pcs10 (k : Fin k0_t2_loop.trips) (g : Fin 2 → Fin 4 → V8 F) : List (View.Piece (Elt F) S4x272x128 .f32) :=
  [(1, 3), (1, 2), (1, 1), (1, 0), (0, 3), (0, 2), (0, 1), (0, 0)].map fun p => pc10 k g p.1 p.2

theorem all_pairs (b : Fin 2) (j : Fin 4) :
    (b, j) ∈ ([(1, 3), (1, 2), (1, 1), (1, 0), (0, 3), (0, 2), (0, 1), (0, 0)] : List (Fin 2 × Fin 4)) := by
  revert b j; decide

theorem mem_pc9 (k : Fin k0_t2_loop.trips) (q : Fin 2 → ℕ → V8 F) (b : Fin 2) (wd : Fin 4) (y : S1088x128.Idx) (h : y ∈ (pc9 k q b wd).1.set) :
    ∃ r < 8, (y 0).val = 4 * (16 * k.val + 8 * b.val + r) + wd.val := by
  obtain ⟨r, hr, e⟩ := (LoadRect.mem_set _).mp h 0
  refine ⟨r, hr, ?_⟩
  have e' : (y 0).val = k0_off9 k (BitVec.ofNat 32 (8 * b.val)) (BitVec.ofNat 32 wd.val) 0 + 4 * r := e
  rw [off9_eq] at e'
  have e2 : (y 0).val = 4 * (16 * k.val + 8 * b.val) + wd.val + 4 * r := e'
  omega

theorem mem_pc10 (k : Fin k0_t2_loop.trips) (g : Fin 2 → Fin 4 → V8 F) (b : Fin 2) (j : Fin 4) (y : S4x272x128.Idx) (h : y ∈ (pc10 k g b j).1.set) :
    (y 0).val = j.val ∧ ∃ r < 8, (y 1).val = 16 * k.val + 8 * b.val + r := by
  obtain ⟨r0, hr0, e0⟩ := (LoadRect.mem_set _).mp h 0
  obtain ⟨r, hr, e⟩ := (LoadRect.mem_set _).mp h 1
  have e0' : (y 0).val = offG k (BitVec.ofNat 32 (8 * b.val)) j 0 + 1 * r0 := e0
  have e' : (y 1).val = offG k (BitVec.ofNat 32 (8 * b.val)) j 1 + 1 * r := e
  rw [offG_eq] at e' e0'
  have e2 : (y 1).val = 16 * k.val + 8 * b.val + 1 * r := e'
  have e3 : (y 0).val = j.val + 1 * r0 := e0'
  have h1 : r0 < 1 := hr0
  exact ⟨by omega, r, hr, by omega⟩

theorem split_row (k L : ℕ) (h1 : ¬ L < 16 * k) (h2 : L < 16 * (k + 1)) : ∃ (b : Fin 2) (r : Fin 8), L = 16 * k + 8 * b.val + r.val :=
  ⟨⟨(L - 16 * k) / 8, by omega⟩, ⟨(L - 16 * k) % 8, by omega⟩, by show L = 16 * k + 8 * ((L - 16 * k) / 8) + (L - 16 * k) % 8; omega⟩

variable (M7 : Memref sig .tc .vmem S17664x128 .bf16) (f7 : BufTy.Contents (Elt F) M7.view.ty) (k : Fin k0_t2_loop.trips)

theorem words_step (M9 : Memref sig .tc .vmem S1088x128 .i32) (f9 : BufTy.Contents (Elt F) M9.view.ty)
    (q : Fin 2 → ℕ → V8 F) (hq : ∀ b, ∀ wd < 4, wordV (q b) wd = wordV (fun m => clipV (addf (uV (ldv M7 f7 k b) m) (fitV (ldv M7 f7 k b) 20).1)) wd)
    (h : Words k.val (M7.view.read (Elt F) f7) (M9.view.read (Elt F) f9)) :
    Words (k.val + 1) (M7.view.read (Elt F) f7) (M9.view.read (Elt F) (M9.view.writes (Elt F) f9 (pcs9 k q))) := by
  intro L wd hb l hL hwd
  by_cases hlt : L < 16 * k.val
  · rw [View.read_writes_apply_of_forall_not_mem]
    · exact h L wd hb l hlt hwd
    · intro p hp hy
      obtain ⟨⟨b, wd'⟩, -, rfl⟩ := List.mem_map.mp hp
      obtain ⟨r, hr, e⟩ := mem_pc9 k q b wd' _ hy
      have e' : 4 * L + wd = 4 * (16 * k.val + 8 * b.val + r) + wd'.val := e
      have := wd'.isLt
      omega
  · obtain ⟨b, r, rfl⟩ := split_row k.val L hlt hL
    have hx : (ix2 (n0 := 1088) (n1 := 128) ⟨4 * (16 * k.val + 8 * b.val + r.val) + wd, hb⟩ l) = (pc9 k q b ⟨wd, hwd⟩).1.emb (ix2 (n0 := 8) (n1 := 128) r l) := by
      funext a
      match a with
      | ⟨0, _⟩ =>
        apply Fin.ext
        show 4 * (16 * k.val + 8 * b.val + r.val) + wd = k0_off9 k (BitVec.ofNat 32 (8 * b.val)) (BitVec.ofNat 32 (⟨wd, hwd⟩ : Fin 4).val) 0 + 4 * r.val
        rw [off9_eq]
        show _ = 4 * (16 * k.val + 8 * b.val) + wd + 4 * r.val
        omega
      | ⟨1, _⟩ =>
        apply Fin.ext
        show l.val = k0_off9 k (BitVec.ofNat 32 (8 * b.val)) (BitVec.ofNat 32 (⟨wd, hwd⟩ : Fin 4).val) 1 + 1 * l.val
        rw [off9_eq]
        show _ = 0 + 1 * l.val
        omega
    refine (congrArg (M9.view.read (Elt F) _) hx).trans ((View.read_writes_of_unique M9.view f9 (pc9 k q b ⟨wd, hwd⟩) (ix2 (n0 := 8) (n1 := 128) r l) (pcs9 k q) ?_ ?_).trans ?_)
    rotate_left 2
    · show shapeCast S8x128 (wordV (q b) wd) rfl (ix2 (n0 := 8) (n1 := 128) r l) = _
      rw [shapeCast_self, hq b wd hwd, wordV_at]
      simp only [ldv_at]
    · exact List.mem_map.mpr ⟨(b, ⟨wd, hwd⟩), all_pairs _ _, rfl⟩
    · intro p hp hy
      obtain ⟨⟨b', wd'⟩, -, rfl⟩ := List.mem_map.mp hp
      rw [← hx] at hy
      obtain ⟨r', hr, e⟩ := mem_pc9 k q b' wd' _ hy
      have e' : 4 * (16 * k.val + 8 * b.val + r.val) + wd = 4 * (16 * k.val + 8 * b'.val + r') + wd'.val := e
      have := wd'.isLt; have := r.isLt
      have hw : (⟨wd, hwd⟩ : Fin 4) = wd' := Fin.ext (show wd = wd'.val by omega)
      have hbb : b = b' := Fin.ext (by omega)
      rw [hw, hbb]

theorem nums_step (M10 : Memref sig .tc .vmem S4x272x128 .f32) (f10 : BufTy.Contents (Elt F) M10.view.ty)
    (g : Fin 2 → Fin 4 → V8 F) (hg : ∀ b j i, g b j i = rowG (fun m => ldv M7 f7 k b m i) j)
    (h : Nums k.val (M7.view.read (Elt F) f7) (M10.view.read (Elt F) f10)) :
    Nums (k.val + 1) (M7.view.read (Elt F) f7) (M10.view.read (Elt F) (M10.view.writes (Elt F) f10 (pcs10 k g))) := by
  intro j L hb l hL
  by_cases hlt : L < 16 * k.val
  · rw [View.read_writes_apply_of_forall_not_mem]
    · exact h j L hb l hlt
    · intro p hp hy
      obtain ⟨⟨b, j'⟩, -, rfl⟩ := List.mem_map.mp hp
      obtain ⟨-, r, hr, e⟩ := mem_pc10 k g b j' _ hy
      have e' : L = 16 * k.val + 8 * b.val + r := e
      omega
  · obtain ⟨b, r, rfl⟩ := split_row k.val L hlt hL
    have hx : (ix3 (n0 := 4) (n1 := 272) (n2 := 128) j ⟨16 * k.val + 8 * b.val + r.val, hb⟩ l) = (pc10 k g b j).1.emb (ix3 (n0 := 1) (n1 := 8) (n2 := 128) 0 r l) := by
      funext a
      match a with
      | ⟨0, _⟩ =>
        apply Fin.ext
        show j.val = offG k (BitVec.ofNat 32 (8 * b.val)) j 0 + 1 * 0
        rw [offG_eq]; rfl
      | ⟨1, _⟩ =>
        apply Fin.ext
        show 16 * k.val + 8 * b.val + r.val = offG k (BitVec.ofNat 32 (8 * b.val)) j 1 + 1 * r.val
        rw [offG_eq]
        show _ = 16 * k.val + 8 * b.val + 1 * r.val
        omega
      | ⟨2, _⟩ =>
        apply Fin.ext
        show l.val = offG k (BitVec.ofNat 32 (8 * b.val)) j 2 + 1 * l.val
        rw [offG_eq]
        show _ = 0 + 1 * l.val
        omega
    refine (congrArg (M10.view.read (Elt F) _) hx).trans ((View.read_writes_of_unique M10.view f10 (pc10 k g b j) (ix3 (n0 := 1) (n1 := 8) (n2 := 128) 0 r l) (pcs10 k g) ?_ ?_).trans ?_)
    rotate_left 2
    · show shapeCast S1x8x128 (g b j) shapeCasts_S8x128_S1x8x128 (ix3 (n0 := 1) (n1 := 8) (n2 := 128) 0 r l) = _
      refine (shapeCast_addUnit_apply _ _ _ _).trans ?_
      have e : ∀ i : S8x128.Idx, i = ix2 (n0 := 8) (n1 := 128) r l → g b j i = rowG (fun m => ldv M7 f7 k b m (ix2 (n0 := 8) (n1 := 128) r l)) j := by
        rintro i rfl; exact hg b j _
      refine (e _ (by funext a; match a with | ⟨0, _⟩ => rfl | ⟨1, _⟩ => rfl)).trans ?_
      simp only [ldv_at]
    · exact List.mem_map.mpr ⟨(b, j), all_pairs _ _, rfl⟩
    · intro p hp hy
      obtain ⟨⟨b', j'⟩, -, rfl⟩ := List.mem_map.mp hp
      rw [← hx] at hy
      obtain ⟨e0, r', hr, e⟩ := mem_pc10 k g b' j' _ hy
      have e' : 16 * k.val + 8 * b.val + r.val = 16 * k.val + 8 * b'.val + r' := e
      have := r.isLt
      have hbb : b = b' := Fin.ext (by omega)
      have hjj : j = j' := Fin.ext e0
      rw [hjj, hbb]

end Cert.KernelIdeal.Hand
end
-- ==== Proof.Out.lean ====
/-
  What the body leaves in the five result blocks, element by element, as functions of the input block; and the stores
  that leave it there.
-/
module

public import proofs.«01_k».proof.Proof.Pieces
public import proofs.«01_k».proof.Proof.KernelIdealViews
public import Idealize.ShloMosaic.Lib.BitcastPair

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]

/-! ## The blocks -/

/-- Member `m` of group `g` of lane `l`, in block `i` of rows of the input block. -/
def kmem (x : S2x2880x384.Idx → F .bf16) (i : Fin 6) (g : ℕ) (l : Fin 128) (m : ℕ) : F .f32 :=
  if m / 2 < 32 then FloatOps.extf .f32 (by decide)
    (x (ix3 (n0 := 2) (n1 := 2880) (n2 := 384) ⟨i.val / 3, by omega⟩ ⟨(64 * g + m) % 2880, Nat.mod_lt _ (by decide)⟩ ⟨128 * (i.val % 3) + l.val, by omega⟩))
  else FloatOps.ofBits .f32 0#32

/-- The block of rows an element of a result block belongs to. -/
def rbOf (mat : Fin 2) (n : Fin 384) : Fin 6 := ⟨3 * mat.val + n.val / 128, by omega⟩

/-- A result block of numbers. -/
def numBlk (j : Fin 4) (x : S2x2880x384.Idx → F .bf16) : S45x2x384.Idx → F .f32 := fun y =>
  rowG (kmem x (rbOf (y 1) (y 2)) (y 0).val ⟨(y 2).val % 128, Nat.mod_lt _ (by decide)⟩) j

/-- The result block of codes. -/
def codeBlk (x : S2x2880x384.Idx → F .bf16) : S2x720x384.Idx → BitVec 8 := fun y =>
  ((rowWord (kmem x (rbOf (y 0) (y 2)) ((y 1).val / 16) ⟨(y 2).val % 128, Nat.mod_lt _ (by decide)⟩) ((y 1).val / 4 % 4)) >>> (8 * ((y 1).val % 4))).setWidth 8

/-! ## The stores -/

theorem inb3 (i : Fin 6) (a : Fin 3) : (![0, i.val / 3, 128 * (i.val % 3)] : Fin 3 → ℕ) a + S45x1x128.size a ≤ S45x2x384.size a := by
  have := i.isLt
  match a with
  | ⟨0, _⟩ => show 0 + 45 ≤ 45; omega
  | ⟨1, _⟩ => show i.val / 3 + 1 ≤ 2; omega
  | ⟨2, _⟩ => show 128 * (i.val % 3) + 128 ≤ 384; omega

theorem inb10 (j : Fin 4) (i : Fin 6) (a : Fin 3) : (![j.val, 45 * i.val, 0] : Fin 3 → ℕ) a + S1x45x128.size a ≤ S4x272x128.size a := by
  have := i.isLt; have := j.isLt
  match a with
  | ⟨0, _⟩ => show j.val + 1 ≤ 4; omega
  | ⟨1, _⟩ => show 45 * i.val + 45 ≤ 272; omega
  | ⟨2, _⟩ => show 0 + 128 ≤ 128; omega

theorem inb2 (i : Fin 6) (a : Fin 3) : (![i.val / 3, 0, 128 * (i.val % 3)] : Fin 3 → ℕ) a + S1x720x128.size a ≤ S2x720x384.size a := by
  have := i.isLt
  match a with
  | ⟨0, _⟩ => show i.val / 3 + 1 ≤ 2; omega
  | ⟨1, _⟩ => show 0 + 720 ≤ 720; omega
  | ⟨2, _⟩ => show 128 * (i.val % 3) + 128 ≤ 384; omega

theorem inb9 (i : Fin 6) (a : Fin 2) : (![180 * i.val, 0] : Fin 2 → ℕ) a + S180x128.size a ≤ S1088x128.size a := by
  have := i.isLt
  match a with
  | ⟨0, _⟩ => show 180 * i.val + 180 ≤ 1088; omega
  | ⟨1, _⟩ => show 0 + 128 ≤ 128; omega

/-- One block of rows of a result of numbers, as stored. -/
def payO (M : Memref sig .tc .vmem S4x272x128 .f32) (f10 : BufTy.Contents (Elt F) M.view.ty) (j : Fin 4) (i : Fin 6) : FVec F S45x1x128 .f32 :=
  shapeCast S45x1x128 (shapeCast S45x128 (View.readAt (Elt F) M.view (Rect.unit (s := S4x272x128) ![j.val, 45 * i.val, 0] S1x45x128.size (inb10 j i)).toLoadRect f10)
    shapeCasts_S1x45x128_S45x128) shapeCasts_S45x128_S45x1x128

/-- The store of one block of rows of a result of numbers. -/
def pcO (M : Memref sig .tc .vmem S4x272x128 .f32) (f10 : BufTy.Contents (Elt F) M.view.ty) (j : Fin 4) (i : Fin 6) : View.Piece (Elt F) S45x2x384 .f32 :=
  ⟨Rect.unit (s := S45x2x384) ![0, i.val / 3, 128 * (i.val % 3)] S45x1x128.size (inb3 i),
    payO M f10 j i⟩

def pcsO (M : Memref sig .tc .vmem S4x272x128 .f32) (f10 : BufTy.Contents (Elt F) M.view.ty) (j : Fin 4) : List (View.Piece (Elt F) S45x2x384 .f32) :=
  [pcO M f10 j 5, pcO M f10 j 4, pcO M f10 j 3, pcO M f10 j 2, pcO M f10 j 1, pcO M f10 j 0]

/-- The words of one block of rows, as loaded. -/
def ldC (M : Memref sig .tc .vmem S1088x128 .i32) (f9 : BufTy.Contents (Elt F) M.view.ty) (i : Fin 6) : IVec S180x128 32 :=
  View.readAt (Elt F) M.view (Rect.unit (s := S1088x128) ![180 * i.val, 0] S180x128.size (inb9 i)).toLoadRect f9

/-- The codes of one block of rows, as stored. -/
def payC (M : Memref sig .tc .vmem S1088x128 .i32) (f9 : BufTy.Contents (Elt F) M.view.ty) (i : Fin 6) : IVec S1x720x128 8 :=
  shapeCast S1x720x128 (bitcast S720x128 8 (ldC M f9 i) bitcasts_S180x128_w32_S720x128_w8) shapeCasts_S720x128_S1x720x128

/-- The store of one block of rows of the codes. -/
def pcC (M : Memref sig .tc .vmem S1088x128 .i32) (f9 : BufTy.Contents (Elt F) M.view.ty) (i : Fin 6) : View.Piece (Elt F) S2x720x384 .i8 :=
  ⟨Rect.unit (s := S2x720x384) ![i.val / 3, 0, 128 * (i.val % 3)] S1x720x128.size (inb2 i),
    payC M f9 i⟩

def pcsC (M : Memref sig .tc .vmem S1088x128 .i32) (f9 : BufTy.Contents (Elt F) M.view.ty) : List (View.Piece (Elt F) S2x720x384 .i8) :=
  [pcC M f9 5, pcC M f9 4, pcC M f9 3, pcC M f9 2, pcC M f9 1, pcC M f9 0]

theorem mem_pcsO (M : Memref sig .tc .vmem S4x272x128 .f32) (f10 : BufTy.Contents (Elt F) M.view.ty) (j : Fin 4) (i : Fin 6) : pcO M f10 j i ∈ pcsO M f10 j := by
  unfold pcsO
  match i with
  | 0 => simp | 1 => simp | 2 => simp | 3 => simp | 4 => simp | 5 => simp

theorem of_mem_pcsO (M : Memref sig .tc .vmem S4x272x128 .f32) (f10 : BufTy.Contents (Elt F) M.view.ty) (j : Fin 4) (p) (h : p ∈ pcsO M f10 j) :
    ∃ i, p = pcO M f10 j i := by
  simp only [pcsO, List.mem_cons, List.not_mem_nil, or_false] at h
  rcases h with h | h | h | h | h | h <;> exact ⟨_, h⟩

theorem mem_pcsC (M : Memref sig .tc .vmem S1088x128 .i32) (f9 : BufTy.Contents (Elt F) M.view.ty) (i : Fin 6) : pcC M f9 i ∈ pcsC M f9 := by
  unfold pcsC
  match i with
  | 0 => simp | 1 => simp | 2 => simp | 3 => simp | 4 => simp | 5 => simp

theorem of_mem_pcsC (M : Memref sig .tc .vmem S1088x128 .i32) (f9 : BufTy.Contents (Elt F) M.view.ty) (p) (h : p ∈ pcsC M f9) : ∃ i, p = pcC M f9 i := by
  simp only [pcsC, List.mem_cons, List.not_mem_nil, or_false] at h
  rcases h with h | h | h | h | h | h <;> exact ⟨_, h⟩

/-! ## What they leave -/

theorem rowG_out (j : Fin 4) (x7 : S17664x128.Idx → F .bf16) (x : S2x2880x384.Idx → F .bf16) (i : Fin 6) (g : ℕ) (l : Fin 128)
    (h : ∀ m : Fin 64, memb x7 (45 * i.val + g) l m.val = kmem x i g l m.val) :
    memb x7 (45 * i.val + g) l = kmem x i g l := by
  funext m
  by_cases hm : m / 2 < 32
  · exact h ⟨m, by omega⟩
  · unfold memb kmem; rw [if_neg hm, if_neg hm]

theorem read_pcsO (M : Memref sig .tc .vmem S4x272x128 .f32) (f10 : BufTy.Contents (Elt F) M.view.ty) (j : Fin 4)
    (D : Memref sig .tc .vmem S45x2x384 .f32) (f : BufTy.Contents (Elt F) D.view.ty) (x7 : S17664x128.Idx → F .bf16) (x : S2x2880x384.Idx → F .bf16)
    (hx : ∀ (i : Fin 6) (g : ℕ) (hg : g < 45) (l : Fin 128) (m : Fin 64), memb x7 (45 * i.val + g) l m.val = kmem x i g l m.val)
    (h : Nums 17 x7 (M.view.read (Elt F) f10)) :
    D.view.read (Elt F) (D.view.writes (Elt F) f (pcsO M f10 j)) = numBlk j x := by
  funext y
  obtain ⟨g, mat, n, rfl⟩ : ∃ (g : Fin 45) (mat : Fin 2) (n : Fin 384), y = ix3 (n0 := 45) (n1 := 2) (n2 := 384) g mat n := ⟨y 0, y 1, y 2, eq_ix3 y⟩
  have hm := mat.isLt; have hn := n.isLt; have hg := g.isLt
  have hy : (ix3 (n0 := 45) (n1 := 2) (n2 := 384) g mat n) = (pcO M f10 j (rbOf mat n)).1.emb (ix3 (n0 := 45) (n1 := 1) (n2 := 128) g 0 ⟨n.val % 128, Nat.mod_lt _ (by decide)⟩) := by
    funext a
    match a with
    | ⟨0, _⟩ => apply Fin.ext; show g.val = 0 + 1 * g.val; omega
    | ⟨1, _⟩ => apply Fin.ext; show mat.val = (3 * mat.val + n.val / 128) / 3 + 1 * 0; omega
    | ⟨2, _⟩ => apply Fin.ext; show n.val = 128 * ((3 * mat.val + n.val / 128) % 3) + 1 * (n.val % 128); omega
  refine (congrArg (D.view.read (Elt F) _) hy).trans ((View.read_writes_of_unique D.view f (pcO M f10 j (rbOf mat n)) _ (pcsO M f10 j) (mem_pcsO M f10 j _) ?_).trans ?_)
  · intro q hq hmem
    obtain ⟨i', rfl⟩ := of_mem_pcsO M f10 j q hq
    rw [← hy] at hmem
    obtain ⟨a1, ha1, e1⟩ := (LoadRect.mem_set _).mp hmem 1
    obtain ⟨a2, ha2, e2⟩ := (LoadRect.mem_set _).mp hmem 2
    have ha1' : a1 < 1 := ha1
    have ha2' : a2 < 128 := ha2
    have e1' : mat.val = i'.val / 3 + 1 * a1 := e1
    have e2' : n.val = 128 * (i'.val % 3) + 1 * a2 := e2
    have : i' = rbOf mat n := Fin.ext (by show i'.val = 3 * mat.val + n.val / 128; omega)
    rw [this]
  · show payO M f10 j (rbOf mat n) _ = _
    unfold payO
    refine (shapeCast_apply _ _ _ (ix2 (n0 := 45) (n1 := 128) g ⟨n.val % 128, Nat.mod_lt _ (by decide)⟩) ?_).trans ?_
    · rw [Shape.rowMajor_val_two, Shape.rowMajor_val_three]
      show g.val * 128 + n.val % 128 = (g.val * 1 + 0) * 128 + n.val % 128
      omega
    refine (shapeCast_dropUnit_apply _ _ _ _).trans ?_
    have hL : 45 * (rbOf mat n).val + g.val < 272 := by show 45 * (3 * mat.val + n.val / 128) + g.val < 272; omega
    have e := h j (45 * (rbOf mat n).val + g.val) hL ⟨n.val % 128, Nat.mod_lt _ (by decide)⟩ (by show 45 * (3 * mat.val + n.val / 128) + g.val < _; omega)
    rw [rowG_out j x7 x (rbOf mat n) g.val _ (hx _ _ hg _)] at e
    refine Eq.trans (congrArg (M.view.read (Elt F) f10) ?_) e
    funext a
    match a with
    | ⟨0, _⟩ => apply Fin.ext; show j.val + 1 * 0 = j.val; omega
    | ⟨1, _⟩ => apply Fin.ext; show 45 * (rbOf mat n).val + 1 * g.val = 45 * (rbOf mat n).val + g.val; omega
    | ⟨2, _⟩ => apply Fin.ext; show 0 + 1 * (n.val % 128) = n.val % 128; omega

/-- Four bytes of a row of words, lowest first. -/
theorem bytes_at (v : IVec S180x128 32) (r : Fin 720) (l : Fin 128) :
    bitcast S720x128 8 v bitcasts_S180x128_w32_S720x128_w8 (ix2 (n0 := 720) (n1 := 128) r l)
      = (v (ix2 (n0 := 180) (n1 := 128) ⟨r.val / 4, by omega⟩ l) >>> (8 * (r.val % 4))).setWidth 8 := by
  apply BitVec.eq_of_getLsbD_eq
  intro q hq
  rw [bitcast_getLsbD v _ _ q hq (by decide)]
  have hr : S720x128.row (ix2 (n0 := 720) (n1 := 128) r l) = r.val := rfl
  have e1 : (S720x128.row (ix2 (n0 := 720) (n1 := 128) r l) * 8 + q) / 32 = r.val / 4 := by rw [hr]; omega
  have e2 : (S720x128.row (ix2 (n0 := 720) (n1 := 128) r l) * 8 + q) % 32 = 8 * (r.val % 4) + q := by rw [hr]; omega
  rw [e2, BitVec.getLsbD_setWidth, BitVec.getLsbD_ushiftRight, decide_eq_true hq, Bool.true_and]
  congr 2
  funext a
  match a with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

theorem read_pcsC (M : Memref sig .tc .vmem S1088x128 .i32) (f9 : BufTy.Contents (Elt F) M.view.ty)
    (D : Memref sig .tc .vmem S2x720x384 .i8) (f : BufTy.Contents (Elt F) D.view.ty) (x7 : S17664x128.Idx → F .bf16) (x : S2x2880x384.Idx → F .bf16)
    (hx : ∀ (i : Fin 6) (g : ℕ) (hg : g < 45) (l : Fin 128) (m : Fin 64), memb x7 (45 * i.val + g) l m.val = kmem x i g l m.val)
    (h : Words 17 x7 (M.view.read (Elt F) f9)) :
    D.view.read (Elt F) (D.view.writes (Elt F) f (pcsC M f9)) = codeBlk x := by
  funext y
  obtain ⟨mat, b, n, rfl⟩ : ∃ (mat : Fin 2) (b : Fin 720) (n : Fin 384), y = ix3 (n0 := 2) (n1 := 720) (n2 := 384) mat b n := ⟨y 0, y 1, y 2, eq_ix3 y⟩
  have hm := mat.isLt; have hn := n.isLt; have hb := b.isLt
  have hy : (ix3 (n0 := 2) (n1 := 720) (n2 := 384) mat b n) = (pcC M f9 (rbOf mat n)).1.emb (ix3 (n0 := 1) (n1 := 720) (n2 := 128) 0 b ⟨n.val % 128, Nat.mod_lt _ (by decide)⟩) := by
    funext a
    match a with
    | ⟨0, _⟩ => apply Fin.ext; show mat.val = (3 * mat.val + n.val / 128) / 3 + 1 * 0; omega
    | ⟨1, _⟩ => apply Fin.ext; show b.val = 0 + 1 * b.val; omega
    | ⟨2, _⟩ => apply Fin.ext; show n.val = 128 * ((3 * mat.val + n.val / 128) % 3) + 1 * (n.val % 128); omega
  refine (congrArg (D.view.read (Elt F) _) hy).trans ((View.read_writes_of_unique D.view f (pcC M f9 (rbOf mat n)) _ (pcsC M f9) (mem_pcsC M f9 _) ?_).trans ?_)
  · intro q hq hmem
    obtain ⟨i', rfl⟩ := of_mem_pcsC M f9 q hq
    rw [← hy] at hmem
    obtain ⟨a1, ha1, e1⟩ := (LoadRect.mem_set _).mp hmem 0
    obtain ⟨a2, ha2, e2⟩ := (LoadRect.mem_set _).mp hmem 2
    have ha1' : a1 < 1 := ha1
    have ha2' : a2 < 128 := ha2
    have e1' : mat.val = i'.val / 3 + 1 * a1 := e1
    have e2' : n.val = 128 * (i'.val % 3) + 1 * a2 := e2
    have : i' = rbOf mat n := Fin.ext (by show i'.val = 3 * mat.val + n.val / 128; omega)
    rw [this]
  · show payC M f9 (rbOf mat n) _ = _
    unfold payC
    refine (shapeCast_apply _ _ _ (ix2 (n0 := 720) (n1 := 128) b ⟨n.val % 128, Nat.mod_lt _ (by decide)⟩) ?_).trans ((bytes_at _ _ _).trans ?_)
    · rw [Shape.rowMajor_val_two, Shape.rowMajor_val_three]
      show b.val * 128 + n.val % 128 = (0 * 720 + b.val) * 128 + n.val % 128
      omega
    have hi : (rbOf mat n).val = 3 * mat.val + n.val / 128 := rfl
    have hg : b.val / 16 < 45 := by omega
    have hL : 4 * (45 * (rbOf mat n).val + b.val / 16) + b.val / 4 % 4 < 1088 := by omega
    have e := h (45 * (rbOf mat n).val + b.val / 16) (b.val / 4 % 4) hL ⟨n.val % 128, Nat.mod_lt _ (by decide)⟩ (by omega) (by omega)
    rw [rowG_out 0 x7 x (rbOf mat n) (b.val / 16) _ (hx _ _ hg _)] at e
    show ((M.view.read (Elt F) f9 _) >>> (8 * (b.val % 4))).setWidth 8 = _
    refine congrArg (fun w : BitVec 32 => (w >>> (8 * (b.val % 4))).setWidth 8) ?_
    refine Eq.trans (congrArg (M.view.read (Elt F) f9) ?_) e
    funext a
    match a with
    | ⟨0, _⟩ => apply Fin.ext; show 180 * (rbOf mat n).val + 1 * (b.val / 4) = 4 * (45 * (rbOf mat n).val + b.val / 16) + b.val / 4 % 4; omega
    | ⟨1, _⟩ => apply Fin.ext; show 0 + 1 * (n.val % 128) = n.val % 128; omega

end Cert.KernelIdeal.Hand
end
-- ==== Proof.TripRun1.lean ====
/-
  One trip of the packing loop, run once: the pieces it stores into the packed scratch are the run's own find.
-/
module

public import proofs.«01_k».proof.Proof.KernelIdealViews

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 0 in
/-- One trip of the packing loop, from any contents. -/
def trip1 (c : Dev nD) (i : grid0.Coords) (arg1 : Memref sig .tc .vmem S2x2880x384 .bf16) (harg1 : arg1.IsWhole) (arg2 : Memref sig .tc .vmem S2x720x384 .i8) (harg2 : arg2.IsWhole) (arg3 : Memref sig .tc .vmem S45x2x384 .f32) (harg3 : arg3.IsWhole) (arg4 : Memref sig .tc .vmem S45x2x384 .f32) (harg4 : arg4.IsWhole) (arg5 : Memref sig .tc .vmem S45x2x384 .f32) (harg5 : arg5.IsWhole) (arg6 : Memref sig .tc .vmem S45x2x384 .f32) (harg6 : arg6.IsWhole) (arg7 : Memref sig .tc .vmem S17664x128 .bf16) (harg7 : arg7.IsWhole) (arg8 : Memref sig .tc .vmem S1024x128 .f32) (harg8 : arg8.IsWhole) (arg9 : Memref sig .tc .vmem S1088x128 .i32) (harg9 : arg9.IsWhole) (arg10 : Memref sig .tc .vmem S4x272x128 .f32) (harg10 : arg10.IsWhole) (X1 : BufTy.Contents (Elt F) arg1.view.ty) (k : Fin k0_t1_loop.trips) (acc : Unit) :
    { P : List (View.Piece (Elt F) S8832x2x128 .bf16) // ∀ f7,
      iprop(ptv c arg1 X1 ∗ ptv c (pairsOf arg7 harg7) f7)
        ⊢ (wp frame (wpE (defs₀ (F := F)) Variants.none c none) Set.univ (k0_t1_body (F := F) i arg1 harg1 arg2 harg2 arg3 harg3 arg4 harg4 arg5 harg5 arg6 harg6 arg7 harg7 arg8 harg8 arg9 harg9 arg10 harg10 k acc)
          (fun _ => iprop(ptv c arg1 X1 ∗ ptv c (pairsOf arg7 harg7) ((pairsOf arg7 harg7).view.writes (Elt F) f7 P))) : sProp 𝕄) } := by
  refine ⟨?_, fun f7 => ?run⟩
  case run =>
    unfold k0_t1_body
    iintro ⟨H1, H7⟩
    sl_exec
    sl_step
    isplitl [H1]; · iexact H1
    iexact H7

end Cert.KernelIdeal.Hand
end
-- ==== Proof.TripRun2.lean ====
/-
  One trip of the main loop, run once: the pieces it stores into the two result scratches are the run's own find.
-/
module

public import proofs.«01_k».proof.Proof.KernelIdealViews

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 0 in
/-- One trip of the main loop, from any contents. -/
def trip2 (c : Dev nD) (i : grid0.Coords) (arg1 : Memref sig .tc .vmem S2x2880x384 .bf16) (harg1 : arg1.IsWhole) (arg2 : Memref sig .tc .vmem S2x720x384 .i8) (harg2 : arg2.IsWhole) (arg3 : Memref sig .tc .vmem S45x2x384 .f32) (harg3 : arg3.IsWhole) (arg4 : Memref sig .tc .vmem S45x2x384 .f32) (harg4 : arg4.IsWhole) (arg5 : Memref sig .tc .vmem S45x2x384 .f32) (harg5 : arg5.IsWhole) (arg6 : Memref sig .tc .vmem S45x2x384 .f32) (harg6 : arg6.IsWhole) (arg7 : Memref sig .tc .vmem S17664x128 .bf16) (harg7 : arg7.IsWhole) (arg8 : Memref sig .tc .vmem S1024x128 .f32) (harg8 : arg8.IsWhole) (arg9 : Memref sig .tc .vmem S1088x128 .i32) (harg9 : arg9.IsWhole) (arg10 : Memref sig .tc .vmem S4x272x128 .f32) (harg10 : arg10.IsWhole) (f7 : BufTy.Contents (Elt F) arg7.view.ty) (k : Fin k0_t2_loop.trips) (acc : Unit) :
    { P : List (View.Piece (Elt F) S1088x128 .i32) × List (View.Piece (Elt F) S4x272x128 .f32) // ∀ f8 f9 f10,
      iprop(ptv c arg7 f7 ∗ ptv c arg8 f8 ∗ ptv c arg9 f9 ∗ ptv c arg10 f10)
        ⊢ (wp frame (wpE (defs₀ (F := F)) Variants.none c none) Set.univ (k0_t2_body (F := F) i arg1 harg1 arg2 harg2 arg3 harg3 arg4 harg4 arg5 harg5 arg6 harg6 arg7 harg7 arg8 harg8 arg9 harg9 arg10 harg10 k acc)
          (fun _ => iprop(ptv c arg7 f7 ∗ (∃ f8, ptv c arg8 f8) ∗ ptv c arg9 (arg9.view.writes (Elt F) f9 P.1) ∗ ptv c arg10 (arg10.view.writes (Elt F) f10 P.2))) : sProp 𝕄) } := by
  have hk : k.val < 17 := Nat.lt_of_lt_of_le k.isLt k0_t2_abs.2.1
  refine ⟨(?_, ?_), fun f8 f9 f10 => ?run⟩
  case run =>
    unfold k0_t2_body
    iintro ⟨H7, H8, H9, H10⟩
    sl_exec
    sl_step
    isplitl [H7]; · iexact H7
    isplitl [H8]; · iexists _; iexact H8
    isplitl [H9]; · iexact H9
    iexact H10

end Cert.KernelIdeal.Hand
end
-- ==== Proof.ValueLoop2.lean ====
/-
  The main loop at value strength: after `k` trips the first `16 * k` rows of the two result scratches hold each row's own
  words and numbers.
-/
module

public import proofs.«01_k».proof.Proof.TripRun2
public import proofs.«01_k».proof.Proof.Pieces

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg1 : Memref sig .tc .vmem S2x2880x384 .bf16) (harg1 : arg1.IsWhole) (arg2 : Memref sig .tc .vmem S2x720x384 .i8) (harg2 : arg2.IsWhole) (arg3 : Memref sig .tc .vmem S45x2x384 .f32) (harg3 : arg3.IsWhole) (arg4 : Memref sig .tc .vmem S45x2x384 .f32) (harg4 : arg4.IsWhole) (arg5 : Memref sig .tc .vmem S45x2x384 .f32) (harg5 : arg5.IsWhole) (arg6 : Memref sig .tc .vmem S45x2x384 .f32) (harg6 : arg6.IsWhole) (arg7 : Memref sig .tc .vmem S17664x128 .bf16) (harg7 : arg7.IsWhole) (arg8 : Memref sig .tc .vmem S1024x128 .f32) (harg8 : arg8.IsWhole) (arg9 : Memref sig .tc .vmem S1088x128 .i32) (harg9 : arg9.IsWhole) (arg10 : Memref sig .tc .vmem S4x272x128 .f32) (harg10 : arg10.IsWhole)

theorem trip3 (v0 v1 : FVec F S8x128 .f32) (v159) (v1606 v1613 v3060 v3067) (c0) (X8 : BufTy.Contents (Elt F) arg8.view.ty) (k3) (acc) :
    (trip_k0_t3 (F := F) Variants.none c none i arg1 harg1 arg2 harg2 arg3 harg3 arg4 harg4 arg5 harg5 arg6 harg6 arg7 harg7 arg8 harg8 arg9 harg9 arg10 harg10 v0 v1 v159 v1606 v1613 v3060 v3067 c0 X8 k3).1 acc
      = fitTrip v1 (fun b m => rdU arg8 X8 (64 * b + m)) acc := by
  unfold trip_k0_t3; rfl

/-- The inner loop, from the start of the fit, ends at its twentieth iteration. -/
theorem st3 (v0 : FVec F S8x128 .f32) (v159) (v1606 v1613 v3060 v3067) (c0) (f8 : BufTy.Contents (Elt F) arg8.view.ty) (w : ℕ → ℕ → V8 F) (n : ℕ) (hn : n ≤ 10) :
    st_k0_t3 (F := F) Variants.none c none i arg1 harg1 arg2 harg2 arg3 harg3 arg4 harg4 arg5 harg5 arg6 harg6 arg7 harg7 arg8 harg8 arg9 harg9 arg10 harg10 v0 k0_pay1366 v159 v1606 v1613 v3060 v3067 c0 (arg8.view.writes (Elt F) f8 (pcs8 w 128)) (fit2V w 0) n
      = fit2V w (2 * n) := by
  induction n with
  | zero => rfl
  | succ n ih =>
    have h := st_k0_t3_succ (F := F) Variants.none c none i arg1 harg1 arg2 harg2 arg3 harg3 arg4 harg4 arg5 harg5 arg6 harg6 arg7 harg7 arg8 harg8 arg9 harg9 arg10 harg10 v0 k0_pay1366 v159 v1606 v1613 v3060 v3067 c0 (arg8.view.writes (Elt F) f8 (pcs8 w 128)) (fit2V w 0) ⟨n, hn⟩
    refine h.trans ((trip3 c i arg1 harg1 arg2 harg2 arg3 harg3 arg4 harg4 arg5 harg5 arg6 harg6 arg7 harg7 arg8 harg8 arg9 harg9 arg10 harg10 v0 k0_pay1366 v159 v1606 v1613 v3060 v3067 c0 _ _ _).trans ?_)
    show fitTrip _ _ (st_k0_t3 (F := F) Variants.none c none i arg1 harg1 arg2 harg2 arg3 harg3 arg4 harg4 arg5 harg5 arg6 harg6 arg7 harg7 arg8 harg8 arg9 harg9 arg10 harg10 v0 k0_pay1366 v159 v1606 v1613 v3060 v3067 c0 _ _ n) = _
    rw [ih (by omega)]
    refine fitTrip_fit2V w _ (fun b hb m hm => ?_) n
    have hp : 64 * b + m < 128 := by omega
    have e1 : (64 * b + m) / 64 = b := by omega
    have e2 : (64 * b + m) % 64 = m := by omega
    show rdU arg8 _ (64 * b + m) = _
    rw [rdU_pcs8 _ _ _ _ hp, e1, e2]

/-- One of two, by the half. -/
def sel {α : Type} (b : Fin 2) (x y : α) : α := match b with
  | 0 => x
  | 1 => y

/-- The members of both halves. -/
abbrev w2 (f7 : BufTy.Contents (Elt F) arg7.view.ty) (k : Fin k0_t2_loop.trips) : ℕ → ℕ → V8 F := fun b => ldv arg7 f7 k (Fin.ofNat 2 b)

/-- The scratch of scaled members of a trip, read back. -/
def uOut (f7 : BufTy.Contents (Elt F) arg7.view.ty) (k : Fin k0_t2_loop.trips) : ℕ → V8 F :=
  fun m => rdU arg8 (arg8.view.writes (Elt F) arg8.view.junk (trip2.sl.H8_128 arg7 f7 k)) m

/-- The codes of a trip, from the scaled members and the two fitted zero points. -/
def qOut (U : ℕ → V8 F) (a0 a1 : V8 F) (b : Fin 2) (m : ℕ) : V8 F := clipV (addf (U (64 * b.val + m)) (sel b a0 a1))

/-- The numbers of a trip. -/
def gOut (U : ℕ → V8 F) (s0 s1 z00 z01 a0 a1 : V8 F) (b : Fin 2) : Fin 4 → V8 F := fun j => match j with
  | 0 => sel b s0 s1
  | 1 => sel b a0 a1
  | 2 => lpV k0_pay1365 (sel b s0 s1) fun m => addf (U (64 * b.val + m)) (sel b a0 a1)
  | 3 => subf (sel b a0 a1) (sel b z00 z01)

theorem acc4_clip (q q' : ℕ → V8 F) (b n : ℕ) (h : ∀ m, b ≤ m → m < b + 8 → q m = q' m) (hn : n ≤ 7) : hornV q b n = hornV q' b n := by
  induction n with
  | zero => exact h _ (by omega) (by omega)
  | succ n ih => rw [hornV, hornV, ih (by omega), h _ (by omega) (by omega)]

theorem wordV_congr (q q' : ℕ → V8 F) (wd : ℕ) (hwd : wd < 4) (h : ∀ m < 64, q m = q' m) : wordV q wd = wordV q' wd := by
  unfold wordV
  rw [acc4_clip q q' (16 * wd) 7 (fun m _ _ => h m (by omega)) le_rfl, acc4_clip q q' (16 * wd + 8) 7 (fun m _ _ => h m (by omega)) le_rfl]

theorem lpV_congr (v0 s : V8 F) (t t' : ℕ → V8 F) (h : ∀ m < 64, t m = t' m) : lpV v0 s t = lpV v0 s t' := by
  unfold lpV; rw [fold4_congr _ _ (fun m => errV v0 (t' m)) fun m hm => by rw [h m hm]]

section
variable (f7 : BufTy.Contents (Elt F) arg7.view.ty) (k : Fin k0_t2_loop.trips)

set_option maxRecDepth 10000
set_option maxHeartbeats 0

theorem pieces9 : (trip2 (F := F) c i arg1 harg1 arg2 harg2 arg3 harg3 arg4 harg4 arg5 harg5 arg6 harg6 arg7 harg7 arg8 harg8 arg9 harg9 arg10 harg10 f7 k ()).1.1
    = pcs9 k (qOut (uOut arg7 arg8 f7 k) (trip2.sl.r_10 c i arg1 harg1 arg2 harg2 arg3 harg3 arg4 harg4 arg5 harg5 arg6 harg6 arg7 harg7 arg8 harg8 arg9 harg9 arg10 harg10 f7 k) (trip2.sl.r_11 c i arg1 harg1 arg2 harg2 arg3 harg3 arg4 harg4 arg5 harg5 arg6 harg6 arg7 harg7 arg8 harg8 arg9 harg9 arg10 harg10 f7 k)) := by
  unfold trip2; rfl

theorem pieces10 : (trip2 (F := F) c i arg1 harg1 arg2 harg2 arg3 harg3 arg4 harg4 arg5 harg5 arg6 harg6 arg7 harg7 arg8 harg8 arg9 harg9 arg10 harg10 f7 k ()).1.2
    = pcs10 k (gOut (uOut arg7 arg8 f7 k) (trip2.sl.v995 arg7 f7 k) (trip2.sl.v2449 arg7 f7 k) (trip2.sl.r_4 arg7 f7 k) (trip2.sl.r_8 arg7 f7 k)
      (trip2.sl.r_10 c i arg1 harg1 arg2 harg2 arg3 harg3 arg4 harg4 arg5 harg5 arg6 harg6 arg7 harg7 arg8 harg8 arg9 harg9 arg10 harg10 f7 k) (trip2.sl.r_11 c i arg1 harg1 arg2 harg2 arg3 harg3 arg4 harg4 arg5 harg5 arg6 harg6 arg7 harg7 arg8 harg8 arg9 harg9 arg10 harg10 f7 k)) := by
  unfold trip2; rfl

theorem run_s0 : trip2.sl.v995 arg7 f7 k = sV (ldv arg7 f7 k 0) := rfl
theorem run_s1 : trip2.sl.v2449 arg7 f7 k = sV (ldv arg7 f7 k 1) := rfl
theorem run_z0 : trip2.sl.r_4 arg7 f7 k = z0V (ldv arg7 f7 k 0) := rfl
theorem run_z1 : trip2.sl.r_8 arg7 f7 k = z0V (ldv arg7 f7 k 1) := rfl
theorem run_l0 : trip2.sl.v1613 arg7 f7 k = lc0V (ldv arg7 f7 k 0) := rfl
theorem run_l1 : trip2.sl.r_9 arg7 f7 k = lc0V (ldv arg7 f7 k 1) := rfl
theorem run_u : trip2.sl.H8_128 arg7 f7 k = pcs8 (w2 arg7 f7 k) 128 := rfl

theorem run_start : (trip2.sl.r_4 arg7 f7 k, trip2.sl.r_8 arg7 f7 k, trip2.sl.v1613 arg7 f7 k, trip2.sl.r_9 arg7 f7 k) = fit2V (w2 arg7 f7 k) 0 := by
  rw [run_z0, run_z1, run_l0, run_l1]; rfl

theorem run_a0 : trip2.sl.r_10 c i arg1 harg1 arg2 harg2 arg3 harg3 arg4 harg4 arg5 harg5 arg6 harg6 arg7 harg7 arg8 harg8 arg9 harg9 arg10 harg10 f7 k = (fitV (ldv arg7 f7 k 0) 20).1 := by
  unfold trip2.sl.r_10
  rw [run_start, run_u]
  exact congrArg (fun a : V8 F × V8 F × V8 F × V8 F => a.1) (st3 c i arg1 harg1 arg2 harg2 arg3 harg3 arg4 harg4 arg5 harg5 arg6 harg6 arg7 harg7 arg8 harg8 arg9 harg9 arg10 harg10 _ _ _ _ _ _ _ _ (w2 arg7 f7 k) 10 le_rfl)

theorem run_a1 : trip2.sl.r_11 c i arg1 harg1 arg2 harg2 arg3 harg3 arg4 harg4 arg5 harg5 arg6 harg6 arg7 harg7 arg8 harg8 arg9 harg9 arg10 harg10 f7 k = (fitV (ldv arg7 f7 k 1) 20).1 := by
  unfold trip2.sl.r_11
  rw [run_start, run_u]
  exact congrArg (fun a : V8 F × V8 F × V8 F × V8 F => a.2.1) (st3 c i arg1 harg1 arg2 harg2 arg3 harg3 arg4 harg4 arg5 harg5 arg6 harg6 arg7 harg7 arg8 harg8 arg9 harg9 arg10 harg10 _ _ _ _ _ _ _ _ (w2 arg7 f7 k) 10 le_rfl)

theorem uOut_eq (b : Fin 2) (m : ℕ) (hm : m < 64) : uOut arg7 arg8 f7 k (64 * b.val + m) = uV (ldv arg7 f7 k b) m := by
  have hb := b.isLt
  have hp : 64 * b.val + m < 128 := by omega
  have e1 : (64 * b.val + m) / 64 = b.val := by omega
  have e2 : (64 * b.val + m) % 64 = m := by omega
  unfold uOut
  rw [run_u, rdU_pcs8 _ _ _ _ hp, e1, e2]
  have : Fin.ofNat 2 b.val = b := Fin.ext (Nat.mod_eq_of_lt hb)
  show uV (ldv arg7 f7 k (Fin.ofNat 2 b.val)) m = _
  rw [this]

theorem sel_fun {α : Type} (b : Fin 2) (f : Fin 2 → α) : sel b (f 0) (f 1) = f b := by
  match b with
  | 0 => rfl
  | 1 => rfl

theorem qOut_word (b : Fin 2) (wd : ℕ) (hwd : wd < 4) :
    wordV (qOut (uOut arg7 arg8 f7 k) (trip2.sl.r_10 c i arg1 harg1 arg2 harg2 arg3 harg3 arg4 harg4 arg5 harg5 arg6 harg6 arg7 harg7 arg8 harg8 arg9 harg9 arg10 harg10 f7 k) (trip2.sl.r_11 c i arg1 harg1 arg2 harg2 arg3 harg3 arg4 harg4 arg5 harg5 arg6 harg6 arg7 harg7 arg8 harg8 arg9 harg9 arg10 harg10 f7 k) b) wd
      = wordV (fun m => clipV (addf (uV (ldv arg7 f7 k b) m) (fitV (ldv arg7 f7 k b) 20).1)) wd := by
  refine wordV_congr _ _ wd hwd fun m hm => ?_
  unfold qOut
  rw [uOut_eq _ _ _ _ b m hm, run_a0, run_a1, sel_fun b fun b => (fitV (ldv arg7 f7 k b) 20).1]

theorem gOut_row (b : Fin 2) (j : Fin 4) (x : S8x128.Idx) :
    gOut (uOut arg7 arg8 f7 k) (trip2.sl.v995 arg7 f7 k) (trip2.sl.v2449 arg7 f7 k) (trip2.sl.r_4 arg7 f7 k) (trip2.sl.r_8 arg7 f7 k)
      (trip2.sl.r_10 c i arg1 harg1 arg2 harg2 arg3 harg3 arg4 harg4 arg5 harg5 arg6 harg6 arg7 harg7 arg8 harg8 arg9 harg9 arg10 harg10 f7 k) (trip2.sl.r_11 c i arg1 harg1 arg2 harg2 arg3 harg3 arg4 harg4 arg5 harg5 arg6 harg6 arg7 harg7 arg8 harg8 arg9 harg9 arg10 harg10 f7 k) b j x = rowG (fun m => ldv arg7 f7 k b m x) j := by
  rw [run_a0, run_a1, run_s0, run_s1, run_z0, run_z1]
  unfold gOut
  rw [sel_fun b fun b => (fitV (ldv arg7 f7 k b) 20).1, sel_fun b fun b => sV (ldv arg7 f7 k b), sel_fun b fun b => z0V (ldv arg7 f7 k b)]
  match j with
  | 0 => exact sV_at _ x
  | 1 => exact (fitV_at _ 20 x).1
  | 2 =>
    show lpV _ _ _ x = _
    rw [lpV_congr _ _ _ (fun m => addf (uV (ldv arg7 f7 k b) m) (fitV (ldv arg7 f7 k b) 20).1) fun m hm => by rw [uOut_eq _ _ _ _ b m hm]]
    exact lpV_at _ x
  | 3 => exact shiftV_at _ x

theorem words_step2 (f9 : BufTy.Contents (Elt F) arg9.view.ty) (h : Words k.val (arg7.view.read (Elt F) f7) (arg9.view.read (Elt F) f9)) :
    Words (k.val + 1) (arg7.view.read (Elt F) f7) (arg9.view.read (Elt F) (arg9.view.writes (Elt F) f9 (trip2 (F := F) c i arg1 harg1 arg2 harg2 arg3 harg3 arg4 harg4 arg5 harg5 arg6 harg6 arg7 harg7 arg8 harg8 arg9 harg9 arg10 harg10 f7 k ()).1.1)) := by
  rw [pieces9]; exact words_step arg7 f7 k arg9 f9 _ (qOut_word c i arg1 harg1 arg2 harg2 arg3 harg3 arg4 harg4 arg5 harg5 arg6 harg6 arg7 harg7 arg8 harg8 arg9 harg9 arg10 harg10 f7 k) h

theorem nums_step2 (f10 : BufTy.Contents (Elt F) arg10.view.ty) (h : Nums k.val (arg7.view.read (Elt F) f7) (arg10.view.read (Elt F) f10)) :
    Nums (k.val + 1) (arg7.view.read (Elt F) f7) (arg10.view.read (Elt F) (arg10.view.writes (Elt F) f10 (trip2 (F := F) c i arg1 harg1 arg2 harg2 arg3 harg3 arg4 harg4 arg5 harg5 arg6 harg6 arg7 harg7 arg8 harg8 arg9 harg9 arg10 harg10 f7 k ()).1.2)) := by
  rw [pieces10]; exact nums_step arg7 f7 k arg10 f10 _ (gOut_row c i arg1 harg1 arg2 harg2 arg3 harg3 arg4 harg4 arg5 harg5 arg6 harg6 arg7 harg7 arg8 harg8 arg9 harg9 arg10 harg10 f7 k) h

end

/-- A fact that a loop's invariant states from its first trip on. -/
abbrev fromOne (k : ℕ) (P : Prop) : Prop := Nat.rec (motive := fun _ => Prop) True (fun _ _ => P) k

theorem fromOne_succ (k : ℕ) (P : Prop) (h : P) : fromOne (k + 1) P = True := eq_true h

theorem of_fromOne {k : ℕ} {P : Prop} (h0 : k = 0 → P) (h : fromOne k P = True) : P := by
  cases k with
  | zero => exact h0 rfl
  | succ k => exact of_eq_true h

/-- The main loop: it reads the packed scratch and writes the three others. -/
@[instance_reducible, sl_loop] def valueInv_t2 (X7 : BufTy.Contents (Elt F) arg7.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 where
  inv := fun k _ => iprop(ptv c arg7 X7 ∗ (∃ f8, ptv c arg8 f8)
    ∗ (∃ f9, ptv c arg9 f9 ∗ ⌜fromOne k (Words k (arg7.view.read (Elt F) X7) (arg9.view.read (Elt F) f9)) = True⌝)
    ∗ (∃ f10, ptv c arg10 f10 ∗ ⌜fromOne k (Nums k (arg7.view.read (Elt F) X7) (arg10.view.read (Elt F) f10)) = True⌝))
  step := fun k acc => by
    iintro ⟨H7, ⟨%f8, H8⟩, ⟨%f9, H9, %h9⟩, ⟨%f10, H10, %h10⟩⟩
    iapply (wp_wand_r Idealize.ShloMosaic.frame (wpE (defs₀ (F := F)) Variants.none (c : Thread nD τ) none) Set.univ)
    isplitl [H7 H8 H9 H10]
    · iapply ((trip2 (F := F) c i arg1 harg1 arg2 harg2 arg3 harg3 arg4 harg4 arg5 harg5 arg6 harg6 arg7 harg7 arg8 harg8 arg9 harg9 arg10 harg10 X7 k acc).2 f8 f9 f10)
      isplitl [H7]; · iexact H7
      isplitl [H8]; · iexact H8
      isplitl [H9]; · iexact H9
      iexact H10
    · iintro %yld ⟨H7, ⟨%g8, H8⟩, H9, H10⟩
      isplitl [H7]; · iexact H7
      isplitl [H8]; · iexists _; iexact H8
      isplitl [H9]
      · iexists _; isplitl [H9]; · iexact H9
        ipureintro
        exact fromOne_succ _ _ (words_step2 c i arg1 harg1 arg2 harg2 arg3 harg3 arg4 harg4 arg5 harg5 arg6 harg6 arg7 harg7 arg8 harg8 arg9 harg9 arg10 harg10 X7 k f9 (of_fromOne (fun h => by rw [h]; intro _ _ _ _ h'; omega) h9))
      · iexists _; isplitl [H10]; · iexact H10
        ipureintro
        exact fromOne_succ _ _ (nums_step2 c i arg1 harg1 arg2 harg2 arg3 harg3 arg4 harg4 arg5 harg5 arg6 harg6 arg7 harg7 arg8 harg8 arg9 harg9 arg10 harg10 X7 k f10 (of_fromOne (fun h => by rw [h]; intro _ _ _ _ h'; omega) h10))

end Cert.KernelIdeal.Hand
end
-- ==== Proof.ValueLoop1.lean ====
/-
  The packing loop at value strength: after `k` trips the packed scratch holds the members of the first `k` groups of
  each of the six blocks of rows.
-/
module

public import proofs.«01_k».proof.Proof.TripRun1
public import proofs.«01_k».proof.Proof.ValueLoop2
public import Idealize.ShloMosaic.Lib.ValueIdxCore
public import Idealize.ShloMosaic.Lib.Pipeline.Value
public import Idealize.ShloMosaic.Lib.Writes

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The packed scratch, as rows of pairs, holds the members of the first `n` groups of each block. -/
def Packed (n : ℕ) (x1 : S2x2880x384.Idx → F .bf16) (p7 : S8832x2x128.Idx → F .bf16) : Prop :=
  ∀ (i : Fin 6) (g : ℕ) (a : Fin 32) (par : Fin 2) (l : Fin 128) (hg : g < 45), g < n →
    p7 (ix3 (n0 := 8832) (n1 := 2) (n2 := 128) ⟨276 * a.val + (45 * i.val + g), by omega⟩ par l)
      = x1 (ix3 (n0 := 2) (n1 := 2880) (n2 := 384) ⟨i.val / 3, by omega⟩ ⟨64 * g + (2 * a.val + par.val), by omega⟩ ⟨128 * (i.val % 3) + l.val, by omega⟩)

theorem trips1 (k : Fin k0_t1_loop.trips) : k.val < 45 := Nat.lt_of_lt_of_le k.isLt k0_t1_abs.2.1

theorem off2_eq (k : Fin k0_t1_loop.trips) (i : Fin 6) (q : Fin 4) :
    k0_off2 k (BitVec.ofNat 32 (2208 * q.val + 45 * i.val)) = ![2208 * q.val + 45 * i.val + k.val, 0, 0] := by
  revert k i q; decide +kernel

/-- Where a block's members are read. -/
def offW (k : Fin k0_t1_loop.trips) : Fin 6 → Fin 3 → ℕ
  | 0 => k0_off1 k
  | 1 => k0_off3 k
  | 2 => k0_off4 k
  | 3 => k0_off5 k
  | 4 => k0_off6 k
  | 5 => k0_off7 k

theorem offW_eq (k : Fin k0_t1_loop.trips) (i : Fin 6) : offW k i = ![i.val / 3, 64 * k.val, 128 * (i.val % 3)] := by
  revert k i; decide +kernel

theorem offW_inb (k : Fin k0_t1_loop.trips) (i : Fin 6) (a : Fin 3) : offW k i a + S1x64x128.size a ≤ S2x2880x384.size a := by
  have := trips1 k; have := i.isLt
  rw [offW_eq]
  match a with
  | ⟨0, _⟩ => show i.val / 3 + 1 ≤ 2; omega
  | ⟨1, _⟩ => show 64 * k.val + 64 ≤ 2880; omega
  | ⟨2, _⟩ => show 128 * (i.val % 3) + 128 ≤ 384; omega

theorem off2_inb (k : Fin k0_t1_loop.trips) (i : Fin 6) (q : Fin 4) (a : Fin 3) :
    S8x2x128.size a = 0 ∨ k0_off2 k (BitVec.ofNat 32 (2208 * q.val + 45 * i.val)) a + (![276, 1, 1] : Fin 3 → ℕ) a * (S8x2x128.size a - 1) < S8832x2x128.size a := by
  have := trips1 k; have := i.isLt; have := q.isLt
  rw [off2_eq]
  match a with
  | ⟨0, _⟩ => right; show 2208 * q.val + 45 * i.val + k.val + 276 * 7 < 8832; omega
  | ⟨1, _⟩ => right; show 0 + 1 * 1 < 2; omega
  | ⟨2, _⟩ => right; show 0 + 1 * 127 < 128; omega

theorem pos_276 (a : Fin 3) : 0 < (![276, 1, 1] : Fin 3 → ℕ) a := by
  match a with
  | ⟨0, _⟩ => exact Nat.succ_pos 275
  | ⟨1, _⟩ => exact Nat.one_pos
  | ⟨2, _⟩ => exact Nat.one_pos

variable (arg1 : Memref sig .tc .vmem S2x2880x384 .bf16) (X1 : BufTy.Contents (Elt F) arg1.view.ty) (k : Fin k0_t1_loop.trips)

/-- A group of one block, as loaded. -/
def blk (i : Fin 6) : FVec F S64x128 .bf16 :=
  shapeCast S64x128 (View.readAt (Elt F) arg1.view (Rect.unit (s := S2x2880x384) (offW k i) S1x64x128.size (offW_inb k i)).toLoadRect X1) shapeCasts_S1x64x128_S64x128

theorem pair_bits : S64x128.Bitcasts 16 S32x128 32 := by decide
theorem slice_rows (q : Fin 4) : S32x128.Slices ![8 * q.val, 0] S8x128 := by revert q; decide

/-- Eight rows of one parity, of a group. -/
def half (i : Fin 6) (q : Fin 4) (p : Fin 2) : FVec F S8x128 .bf16 :=
  extractStridedSlice S8x128 ![8 * q.val, 0] (rowsOfParity p S32x128 (blk arg1 X1 k i) pair_bits) (slice_rows q)

/-- The store of eight rows of pairs. -/
def pc7 (i : Fin 6) (q : Fin 4) : View.Piece (Elt F) S8832x2x128 .bf16 :=
  ⟨{ off := k0_off2 k (BitVec.ofNat 32 (2208 * q.val + 45 * i.val)), size := S8x2x128.size, stride := ![276, 1, 1],
      inb := off2_inb k i q, stride_pos := pos_276 },
    interleaveRows S8x2x128 (shapeCast S8x1x128 (half arg1 X1 k i q 0) shapeCasts_S8x128_S8x1x128) (shapeCast S8x1x128 (half arg1 X1 k i q 1) shapeCasts_S8x128_S8x1x128)
      bitcasts_S8x2x128_w16_S8x1x128_w32⟩

/-- The order of a trip's stores, newest first. -/
def order : List (Fin 6 × Fin 4) :=
  [(5, 3), (5, 2), (5, 1), (5, 0), (4, 3), (4, 2), (4, 1), (4, 0), (3, 3), (3, 2), (3, 1), (3, 0),
    (2, 3), (2, 2), (2, 1), (2, 0), (1, 3), (1, 2), (1, 1), (1, 0), (0, 3), (0, 2), (0, 1), (0, 0)]

def pcs7 : List (View.Piece (Elt F) S8832x2x128 .bf16) := order.map fun p => pc7 arg1 X1 k p.1 p.2

theorem mem_order (i : Fin 6) (q : Fin 4) : (i, q) ∈ order := by revert i q; decide

theorem blk_at (i : Fin 6) (r : Fin 64) (l : Fin 128) :
    blk arg1 X1 k i (ix2 (n0 := 64) (n1 := 128) r l) = arg1.view.read (Elt F) X1 (ix3 (n0 := 2) (n1 := 2880) (n2 := 384) ⟨i.val / 3, by omega⟩
      ⟨64 * k.val + r.val, by have := trips1 k; omega⟩ ⟨128 * (i.val % 3) + l.val, by omega⟩) := by
  unfold blk
  refine (shapeCast_dropUnit_apply _ _ _ _).trans (congrArg (arg1.view.read (Elt F) X1) ?_)
  funext a
  match a with
  | ⟨0, _⟩ => apply Fin.ext; show offW k i 0 + 1 * 0 = i.val / 3; rw [offW_eq]; rfl
  | ⟨1, _⟩ => apply Fin.ext; show offW k i 1 + 1 * r.val = 64 * k.val + r.val; rw [offW_eq]; show 64 * k.val + 1 * r.val = _; omega
  | ⟨2, _⟩ => apply Fin.ext; show offW k i 2 + 1 * l.val = 128 * (i.val % 3) + l.val; rw [offW_eq]; show 128 * (i.val % 3) + 1 * l.val = _; omega

theorem half_at (i : Fin 6) (q : Fin 4) (p : Fin 2) (r : Fin 8) (l : Fin 128) :
    half arg1 X1 k i q p (ix2 (n0 := 8) (n1 := 128) r l) = arg1.view.read (Elt F) X1 (ix3 (n0 := 2) (n1 := 2880) (n2 := 384) ⟨i.val / 3, by omega⟩
      ⟨64 * k.val + (2 * (8 * q.val + r.val) + p.val), by have := trips1 k; omega⟩ ⟨128 * (i.val % 3) + l.val, by omega⟩) := by
  unfold half
  refine (extractStridedSlice_apply _ _ _ _ (ix2 (n0 := 32) (n1 := 128) ⟨8 * q.val + r.val, by omega⟩ l) fun a => ?_).trans ?_
  · match a with
    | ⟨0, _⟩ => rfl
    | ⟨1, _⟩ => show l.val = 0 + l.val; omega
  · rw [← blk_at arg1 X1 k i ⟨2 * (8 * q.val + r.val) + p.val, by omega⟩ l]
    refine congrArg (blk arg1 X1 k i) ?_
    funext a
    match a with
    | ⟨0, _⟩ => rfl
    | ⟨1, _⟩ => rfl

theorem unit_mid (v : FVec F S8x128 .bf16) (r : Fin 8) (l : Fin 128) :
    shapeCast S8x1x128 v shapeCasts_S8x128_S8x1x128 (ix3 (n0 := 8) (n1 := 1) (n2 := 128) r 0 l) = v (ix2 (n0 := 8) (n1 := 128) r l) := by
  refine shapeCast_apply _ _ _ _ ?_
  rw [Shape.rowMajor_val_two, Shape.rowMajor_val_three]
  show r.val * 128 + l.val = (r.val * 1 + 0) * 128 + l.val
  omega

theorem pairs_at (lo hi : FVec F S8x1x128 .bf16) (h : S8x2x128.Bitcasts 16 S8x1x128 32) (r : Fin 8) (p : Fin 2) (l : Fin 128) :
    interleaveRows S8x2x128 lo hi h (ix3 (n0 := 8) (n1 := 2) (n2 := 128) r p l)
      = if p.val % 2 = 0 then lo (ix3 (n0 := 8) (n1 := 1) (n2 := 128) r 0 l) else hi (ix3 (n0 := 8) (n1 := 1) (n2 := 128) r 0 l) := by
  unfold interleaveRows
  extract_lets j
  have hj : j = ix3 (n0 := 8) (n1 := 1) (n2 := 128) r 0 l := by
    funext b
    match b with
    | ⟨0, _⟩ => rfl
    | ⟨1, _⟩ => exact Fin.ext (Nat.div_eq_of_lt p.isLt)
    | ⟨2, _⟩ => rfl
  rw [hj]
  rfl

theorem pc7_at (i : Fin 6) (q : Fin 4) (r : Fin 8) (p : Fin 2) (l : Fin 128) :
    (pc7 arg1 X1 k i q).2 (ix3 (n0 := 8) (n1 := 2) (n2 := 128) r p l) = half arg1 X1 k i q p (ix2 (n0 := 8) (n1 := 128) r l) := by
  refine (pairs_at (shapeCast S8x1x128 (half arg1 X1 k i q 0) shapeCasts_S8x128_S8x1x128) (shapeCast S8x1x128 (half arg1 X1 k i q 1) shapeCasts_S8x128_S8x1x128) bitcasts_S8x2x128_w16_S8x1x128_w32 r p l).trans ?_
  match p with
  | 0 => exact (if_pos rfl).trans (unit_mid (half arg1 X1 k i q 0) r l)
  | 1 => exact (if_neg (by decide)).trans (unit_mid (half arg1 X1 k i q 1) r l)

theorem mem_pc7 (i : Fin 6) (q : Fin 4) (y : S8832x2x128.Idx) (h : y ∈ (pc7 arg1 X1 k i q).1.set) :
    ∃ r < 8, (y 0).val = 276 * (8 * q.val + r) + 45 * i.val + k.val := by
  obtain ⟨r, hr, e⟩ := (LoadRect.mem_set _).mp h 0
  refine ⟨r, hr, ?_⟩
  have e' : (y 0).val = k0_off2 k (BitVec.ofNat 32 (2208 * q.val + 45 * i.val)) 0 + 276 * r := e
  rw [off2_eq] at e'
  have e2 : (y 0).val = 2208 * q.val + 45 * i.val + k.val + 276 * r := e'
  omega

theorem split_276 (a b x y : ℕ) (hx : x < 276) (hy : y < 276) (h : 276 * a + x = 276 * b + y) : a = b ∧ x = y := by omega

theorem packed_step (M : Memref sig .tc .vmem S8832x2x128 .bf16) (f7 : BufTy.Contents (Elt F) M.view.ty)
    (h : Packed k.val (arg1.view.read (Elt F) X1) (M.view.read (Elt F) f7)) :
    Packed (k.val + 1) (arg1.view.read (Elt F) X1) (M.view.read (Elt F) (M.view.writes (Elt F) f7 (pcs7 arg1 X1 k))) := by
  intro i g a p l hg hn
  have hk := trips1 k
  by_cases hlt : g < k.val
  · rw [View.read_writes_apply_of_forall_not_mem]
    · exact h i g a p l hg hlt
    · intro pc hp hy
      obtain ⟨⟨i', q⟩, -, rfl⟩ := List.mem_map.mp hp
      obtain ⟨r, hr, e⟩ := mem_pc7 arg1 X1 k i' q _ hy
      have e' : 276 * a.val + (45 * i.val + g) = 276 * (8 * q.val + r) + 45 * i'.val + k.val := e
      have := i'.isLt; have := i.isLt
      obtain ⟨-, e2⟩ := split_276 _ _ _ _ (by omega) (by omega) (e'.trans (Nat.add_assoc _ _ _))
      omega
  · obtain rfl : g = k.val := by omega
    have hx : (ix3 (n0 := 8832) (n1 := 2) (n2 := 128) ⟨276 * a.val + (45 * i.val + k.val), by omega⟩ p l)
        = (pc7 arg1 X1 k i ⟨a.val / 8, by omega⟩).1.emb (ix3 (n0 := 8) (n1 := 2) (n2 := 128) ⟨a.val % 8, by omega⟩ p l) := by
      funext d
      match d with
      | ⟨0, _⟩ =>
        apply Fin.ext
        show 276 * a.val + (45 * i.val + k.val) = k0_off2 k (BitVec.ofNat 32 (2208 * (⟨a.val / 8, by omega⟩ : Fin 4).val + 45 * i.val)) 0 + 276 * (a.val % 8)
        rw [off2_eq]
        show _ = 2208 * (a.val / 8) + 45 * i.val + k.val + 276 * (a.val % 8)
        omega
      | ⟨1, _⟩ =>
        apply Fin.ext
        show p.val = k0_off2 k (BitVec.ofNat 32 (2208 * (⟨a.val / 8, by omega⟩ : Fin 4).val + 45 * i.val)) 1 + 1 * p.val
        rw [off2_eq]
        show _ = 0 + 1 * p.val
        omega
      | ⟨2, _⟩ =>
        apply Fin.ext
        show l.val = k0_off2 k (BitVec.ofNat 32 (2208 * (⟨a.val / 8, by omega⟩ : Fin 4).val + 45 * i.val)) 2 + 1 * l.val
        rw [off2_eq]
        show _ = 0 + 1 * l.val
        omega
    refine (congrArg (M.view.read (Elt F) _) hx).trans ((View.read_writes_of_unique M.view f7 (pc7 arg1 X1 k i ⟨a.val / 8, by omega⟩)
      (ix3 (n0 := 8) (n1 := 2) (n2 := 128) ⟨a.val % 8, by omega⟩ p l) (pcs7 arg1 X1 k) ?_ ?_).trans ?_)
    · exact List.mem_map.mpr ⟨(i, ⟨a.val / 8, by omega⟩), mem_order _ _, rfl⟩
    · intro pc hp hy
      obtain ⟨⟨i', q⟩, -, rfl⟩ := List.mem_map.mp hp
      rw [← hx] at hy
      obtain ⟨r, hr, e⟩ := mem_pc7 arg1 X1 k i' q _ hy
      have e' : 276 * a.val + (45 * i.val + k.val) = 276 * (8 * q.val + r) + 45 * i'.val + k.val := e
      have := i'.isLt; have := i.isLt
      obtain ⟨e1, e2⟩ := split_276 _ _ _ _ (by omega) (by omega) (e'.trans (Nat.add_assoc _ _ _))
      have hi : i' = i := Fin.ext (by omega)
      have hq : q = ⟨a.val / 8, by omega⟩ := Fin.ext (by show q.val = a.val / 8; omega)
      rw [hi, hq]
    · rw [pc7_at, half_at]
      refine congrArg (arg1.view.read (Elt F) X1) ?_
      funext d
      match d with
      | ⟨0, _⟩ => rfl
      | ⟨1, _⟩ => apply Fin.ext; show 64 * k.val + (2 * (8 * (a.val / 8) + a.val % 8) + p.val) = 64 * k.val + (2 * a.val + p.val); omega
      | ⟨2, _⟩ => rfl

/-- The packed scratch read as rows of pairs, against the same scratch read as rows. -/
theorem read_pairs (M : Memref sig .tc .vmem S17664x128 .bf16) (hM : M.IsWhole) (f : BufTy.Contents (Elt F) M.view.ty)
    (r : Fin 8832) (p : Fin 2) (l : Fin 128) :
    (pairsOf M hM).view.read (Elt F) f (ix3 (n0 := 8832) (n1 := 2) (n2 := 128) r p l)
      = M.view.read (Elt F) f (ix2 (n0 := 17664) (n1 := 128) ⟨2 * r.val + p.val, by omega⟩ l) := by
  refine congrArg (M.view.read (Elt F) f) (Shape.reshapeEquiv_eq_of_rowMajor _ ?_)
  rw [Shape.rowMajor_val_two, Shape.rowMajor_val_three]
  show (2 * r.val + p.val) * 128 + l.val = (r.val * 2 + p.val) * 128 + l.val
  omega

/-- What a row's members are, once the packed scratch is full. -/
theorem memb_packed (x1 : S2x2880x384.Idx → F .bf16) (M : Memref sig .tc .vmem S17664x128 .bf16) (hM : M.IsWhole)
    (f : BufTy.Contents (Elt F) M.view.ty) (h : Packed 45 x1 ((pairsOf M hM).view.read (Elt F) f))
    (i : Fin 6) (g : ℕ) (hg : g < 45) (l : Fin 128) (m : Fin 64) :
    memb (M.view.read (Elt F) f) (45 * i.val + g) l m.val = FloatOps.extf .f32 (by decide)
      (x1 (ix3 (n0 := 2) (n1 := 2880) (n2 := 384) ⟨i.val / 3, by omega⟩ ⟨64 * g + m.val, by omega⟩ ⟨128 * (i.val % 3) + l.val, by omega⟩)) := by
  have hm : m.val / 2 < 32 := by omega
  unfold memb
  rw [if_pos hm]
  refine congrArg (FloatOps.extf .f32 _) ?_
  have e := h i g ⟨m.val / 2, hm⟩ ⟨m.val % 2, by omega⟩ l hg hg
  rw [read_pairs] at e
  refine Eq.trans (congrArg (M.view.read (Elt F) f) ?_) (e.trans (congrArg x1 ?_))
  · funext a
    match a with
    | ⟨0, _⟩ =>
      apply Fin.ext
      have hb : 2 * (276 * (m.val / 2) + (45 * i.val + g)) + m.val % 2 < 17664 := by omega
      exact Nat.mod_eq_of_lt hb
    | ⟨1, _⟩ => rfl
  · funext a
    match a with
    | ⟨0, _⟩ => rfl
    | ⟨1, _⟩ => apply Fin.ext; show 64 * g + (2 * (m.val / 2) + m.val % 2) = 64 * g + m.val; omega
    | ⟨2, _⟩ => rfl

/-- The same cells at the same contents, under either view. -/
theorem ptv_pairs_at (M : Memref sig .tc .vmem S17664x128 .bf16) (hM : M.IsWhole) (c : Dev nD) (f : BufTy.Contents (Elt F) M.view.ty) :
    (ptv (F := F) c M f : sProp 𝕄) = ptv (F := F) c (pairsOf M hM) f := by
  have h : (pairsOf M hM).view.set = M.view.set := View.set_reshape _ _
  unfold ptv; rw [h]

section
variable (c : Dev nD) (i : grid0.Coords) (arg1 : Memref sig .tc .vmem S2x2880x384 .bf16) (harg1 : arg1.IsWhole) (arg2 : Memref sig .tc .vmem S2x720x384 .i8) (harg2 : arg2.IsWhole) (arg3 : Memref sig .tc .vmem S45x2x384 .f32) (harg3 : arg3.IsWhole) (arg4 : Memref sig .tc .vmem S45x2x384 .f32) (harg4 : arg4.IsWhole) (arg5 : Memref sig .tc .vmem S45x2x384 .f32) (harg5 : arg5.IsWhole) (arg6 : Memref sig .tc .vmem S45x2x384 .f32) (harg6 : arg6.IsWhole) (arg7 : Memref sig .tc .vmem S17664x128 .bf16) (harg7 : arg7.IsWhole) (arg8 : Memref sig .tc .vmem S1024x128 .f32) (harg8 : arg8.IsWhole) (arg9 : Memref sig .tc .vmem S1088x128 .i32) (harg9 : arg9.IsWhole) (arg10 : Memref sig .tc .vmem S4x272x128 .f32) (harg10 : arg10.IsWhole)
set_option maxRecDepth 10000
set_option maxHeartbeats 0

theorem pieces7 (X1 : BufTy.Contents (Elt F) arg1.view.ty) : (trip1 (F := F) c i arg1 harg1 arg2 harg2 arg3 harg3 arg4 harg4 arg5 harg5 arg6 harg6 arg7 harg7 arg8 harg8 arg9 harg9 arg10 harg10 X1 k ()).1 = pcs7 arg1 X1 k := by
  unfold trip1; rfl

theorem trip1_rows (X1 : BufTy.Contents (Elt F) arg1.view.ty) (k : Fin k0_t1_loop.trips) (acc : Unit) (f7 : BufTy.Contents (Elt F) arg7.view.ty) :
    (iprop(ptv c arg1 X1 ∗ ptv c arg7 f7) : sProp 𝕄)
      ⊢ wp Idealize.ShloMosaic.frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 k acc)
        (fun _ => iprop(ptv c arg1 X1 ∗ ptv c arg7 ((pairsOf arg7 harg7).view.writes (Elt F) f7 (trip1 (F := F) c i arg1 harg1 arg2 harg2 arg3 harg3 arg4 harg4 arg5 harg5 arg6 harg6 arg7 harg7 arg8 harg8 arg9 harg9 arg10 harg10 X1 k acc).1))) := by
  simp only [ptv_pairs_at arg7 harg7 c]
  exact (trip1 (F := F) c i arg1 harg1 arg2 harg2 arg3 harg3 arg4 harg4 arg5 harg5 arg6 harg6 arg7 harg7 arg8 harg8 arg9 harg9 arg10 harg10 X1 k acc).2 f7

/-- The packing loop's invariant: the first `k` groups of every block are packed. -/
@[instance_reducible, sl_loop] def valueInv_t1 (X1 : BufTy.Contents (Elt F) arg1.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 where
  inv := fun k _ => iprop(ptv c arg1 X1
    ∗ (∃ f7, ptv c arg7 f7 ∗ ⌜fromOne k (Packed k (arg1.view.read (Elt F) X1) ((pairsOf arg7 harg7).view.read (Elt F) f7)) = True⌝))
  step := fun k acc => by
    iintro ⟨H1, ⟨%f7, H7, %h7⟩⟩
    iapply (wp_wand_r Idealize.ShloMosaic.frame (wpE (defs₀ (F := F)) Variants.none (c : Thread nD τ) none) Set.univ)
    isplitl [H1 H7]
    · iapply (trip1_rows (F := F) c i arg1 harg1 arg2 harg2 arg3 harg3 arg4 harg4 arg5 harg5 arg6 harg6 arg7 harg7 arg8 harg8 arg9 harg9 arg10 harg10 X1 k acc f7)
      isplitl [H1]; · iexact H1
      iexact H7
    · iintro %yld ⟨H1, H7⟩
      isplitl [H1]; · iexact H1
      iexists _; isplitl [H7]; · iexact H7
      ipureintro
      refine fromOne_succ _ _ ?_
      have e := packed_step arg1 X1 k (pairsOf arg7 harg7) f7 (of_fromOne (fun h => by rw [h]; intro _ _ _ _ _ _ h'; omega) h7)
      rw [← pieces7 k c i arg1 harg1 arg2 harg2 arg3 harg3 arg4 harg4 arg5 harg5 arg6 harg6 arg7 harg7 arg8 harg8 arg9 harg9 arg10 harg10] at e
      exact e

end

end Cert.KernelIdeal.Hand
end
-- ==== Proof.BodyRun.lean ====
/-
  The body run once at value strength: from any contents of the results' buffers, it leaves the five blocks that
  `Out` names.
-/
module

public import proofs.«01_k».proof.Proof.Out
public import proofs.«01_k».proof.Proof.ValueLoop1
public import proofs.«01_k».proof.Proof.ValueLoop2
public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem trips1_eq : Scf.trips k0_t1_loop.lb k0_t1_loop.ub k0_t1_loop.st = 45 := by decide +kernel
theorem trips2_eq : Scf.trips k0_t2_loop.lb k0_t2_loop.ub k0_t2_loop.st = 17 := by decide +kernel

theorem of_fromOne_pos {k n : ℕ} {P : ℕ → Prop} (hk : k = n + 1) (h : fromOne k (P k) = True) : P (n + 1) := by
  subst hk; exact of_eq_true h

/-- The members of a row, once the packed scratch is full. -/
theorem memb_kmem (x1 : S2x2880x384.Idx → F .bf16) (M : Memref sig .tc .vmem S17664x128 .bf16) (hM : M.IsWhole)
    (f : BufTy.Contents (Elt F) M.view.ty) (h : Packed 45 x1 ((pairsOf M hM).view.read (Elt F) f))
    (i : Fin 6) (g : ℕ) (hg : g < 45) (l : Fin 128) (m : Fin 64) :
    memb (M.view.read (Elt F) f) (45 * i.val + g) l m.val = kmem x1 i g l m.val := by
  rw [memb_packed x1 M hM f h i g hg l m]
  have hm : m.val / 2 < 32 := by omega
  have hlt : 64 * g + m.val < 2880 := by omega
  unfold kmem
  rw [if_pos hm]
  refine congrArg (FloatOps.extf .f32 _) (congrArg x1 ?_)
  funext a
  match a with
  | ⟨0, _⟩ => rfl
  | ⟨1, _⟩ => exact Fin.ext (Nat.mod_eq_of_lt hlt).symm
  | ⟨2, _⟩ => rfl

set_option maxHeartbeats 0 in
/-- The body's triple, for any continuation: the input block is left as found, each result block as named, and the
    scratch at some contents. -/
theorem bodyRun (c : Dev nD) (i : grid0.Coords) (arg1 : Memref sig .tc .vmem S2x2880x384 .bf16) (harg1 : arg1.IsWhole) (arg2 : Memref sig .tc .vmem S2x720x384 .i8) (harg2 : arg2.IsWhole) (arg3 : Memref sig .tc .vmem S45x2x384 .f32) (harg3 : arg3.IsWhole) (arg4 : Memref sig .tc .vmem S45x2x384 .f32) (harg4 : arg4.IsWhole) (arg5 : Memref sig .tc .vmem S45x2x384 .f32) (harg5 : arg5.IsWhole) (arg6 : Memref sig .tc .vmem S45x2x384 .f32) (harg6 : arg6.IsWhole) (arg7 : Memref sig .tc .vmem S17664x128 .bf16) (harg7 : arg7.IsWhole) (arg8 : Memref sig .tc .vmem S1024x128 .f32) (harg8 : arg8.IsWhole) (arg9 : Memref sig .tc .vmem S1088x128 .i32) (harg9 : arg9.IsWhole) (arg10 : Memref sig .tc .vmem S4x272x128 .f32) (harg10 : arg10.IsWhole) (x : S2x2880x384.Idx → Elt F .bf16) (Q : PUnit → sProp 𝕄) :
    iprop(owns (c : Thread nD τ) arg1 fullShare x ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg1 fullShare x ∗ owns (c : Thread nD τ) arg2 fullShare (codeBlk x) ∗ owns (c : Thread nD τ) arg3 fullShare (numBlk 0 x) ∗ owns (c : Thread nD τ) arg4 fullShare (numBlk 1 x) ∗ owns (c : Thread nD τ) arg5 fullShare (numBlk 2 x) ∗ owns (c : Thread nD τ) arg6 fullShare (numBlk 3 x) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ Q ⟨⟩))
      ⊢ wp frame (wpE (defs₀ (F := F)) Variants.none c none) Set.univ (cc0__body (F := F) i arg1 harg1 arg2 harg2 arg3 harg3 arg4 harg4 arg5 harg5 arg6 harg6 arg7 harg7 arg8 harg8 arg9 harg9 arg10 harg10) Q := by
  simp only [cc0__body_eq_skeleton]; unfold cc0__body_skel
  unfold owns
  iintro ⟨⟨%f1, %h1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  sl_exec
  sl_step
  have p7 := of_fromOne_pos (P := fun n => Packed n (arg1.view.read (Elt F) f1) ((pairsOf arg7 harg7).view.read (Elt F) f7L0)) trips1_eq hL2
  have p9 := of_fromOne_pos (P := fun n => Words n (arg7.view.read (Elt F) f7L0) (arg9.view.read (Elt F) f9L2)) trips2_eq hL6
  have p10 := of_fromOne_pos (P := fun n => Nums n (arg7.view.read (Elt F) f7L0) (arg10.view.read (Elt F) f10L3)) trips2_eq hL8
  rw [h1] at p7
  have hx := memb_kmem x arg7 harg7 f7L0 p7
  iapply Hk
  isplitl [H1]
  · iexists _; isplitr; swap; · iexact H1
    ipureintro; exact h1
  isplitl [H2]
  · iexists _; isplitr; swap; · iexact H2
    ipureintro; exact read_pcsC arg9 f9L2 arg2 f2 (arg7.view.read (Elt F) f7L0) x hx p9
  isplitl [H3]
  · iexists _; isplitr; swap; · iexact H3
    ipureintro; exact read_pcsO arg10 f10L3 0 arg3 f3 (arg7.view.read (Elt F) f7L0) x hx p10
  isplitl [H4]
  · iexists _; isplitr; swap; · iexact H4
    ipureintro; exact read_pcsO arg10 f10L3 1 arg4 f4 (arg7.view.read (Elt F) f7L0) x hx p10
  isplitl [H5]
  · iexists _; isplitr; swap; · iexact H5
    ipureintro; exact read_pcsO arg10 f10L3 2 arg5 f5 (arg7.view.read (Elt F) f7L0) x hx p10
  isplitl [H6]
  · iexists _; isplitr; swap; · iexact H6
    ipureintro; exact read_pcsO arg10 f10L3 3 arg6 f6 (arg7.view.read (Elt F) f7L0) x hx p10
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

end Cert.KernelIdeal.Hand
end
-- ==== Proof.ValueFrame.lean ====
/-
  The launch of `KernelIdeal` with the five results named: at every grid point the body leaves `codeBlk` and the four
  `numBlk` of the point's input block, and the host lines after the region transpose the five arrays.
-/
module

public import proofs.«01_k».proof.Proof.BodyRun
public import proofs.«01_k».proof.Proof.KernelIdealFrame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The proof data: what the body leaves in each window at a point, as a function of the point's input block. -/
def vdats (_ : Fin 1) (c : Dev nD) : Dat τ (Elt F) Unit ℕ (UR sig nD τ) ℕ cfg0 c where
  A w := V m c (Pipeline.arrRef spec0 w)
  after w t := match w with
    | 0 => iblk m c 0 t
    | 1 => codeBlk (iblk m c 0 t)
    | 2 => numBlk 0 (iblk m c 0 t)
    | 3 => numBlk 1 (iblk m c 0 t)
    | 4 => numBlk 2 (iblk m c 0 t)
    | 5 => numBlk 3 (iblk m c 0 t)
  Φ _ := Pipeline.ΦA spec0 c
  q _ := fullShare
  owed _ := 0

theorem vA_eq (c : Dev nD) (w : Fin cfg0.W) : (vdats m 0 c).A w = V m c (Pipeline.arrRef spec0 w) := by dsimp only [vdats]

theorem vbefore (c : Dev nD) (t : Fin cfg0.N) (d) : (vdats m 0 c).before 0 t d = iblk m c 0 t :=
  before0_0_of m (vdats m 0 c) (vA_eq m c 0) (fun t => by dsimp only [vdats]) t d

theorem vafter0 (c : Dev nD) (t : Fin cfg0.N) : (vdats m 0 c).after 0 t = iblk m c 0 t := by dsimp only [vdats]
theorem vafter1 (c : Dev nD) (t : Fin cfg0.N) : (vdats m 0 c).after 1 t = codeBlk (iblk m c 0 t) := by dsimp only [vdats]
theorem vafter2 (c : Dev nD) (t : Fin cfg0.N) : (vdats m 0 c).after 2 t = numBlk 0 (iblk m c 0 t) := by dsimp only [vdats]
theorem vafter3 (c : Dev nD) (t : Fin cfg0.N) : (vdats m 0 c).after 3 t = numBlk 1 (iblk m c 0 t) := by dsimp only [vdats]
theorem vafter4 (c : Dev nD) (t : Fin cfg0.N) : (vdats m 0 c).after 4 t = numBlk 2 (iblk m c 0 t) := by dsimp only [vdats]
theorem vafter5 (c : Dev nD) (t : Fin cfg0.N) : (vdats m 0 c).after 5 t = numBlk 3 (iblk m c 0 t) := by dsimp only [vdats]

def vbodyPre (c : Dev nD) (t : Fin cfg0.N) : sProp 𝕄 :=
  iprop((vdats m 0 c).Φ t.castSucc ∗ (vdats m 0 c).owesAt () t.castSucc
    ∗ (∃ d, owns (c : Thread nD τ) (ms0_0 t) fullShare ((vdats m 0 c).before 0 t d)) ∗ (∃ d, owns (c : Thread nD τ) (ms0_1 t) fullShare ((vdats m 0 c).before 1 t d)) ∗ (∃ d, owns (c : Thread nD τ) (ms0_2 t) fullShare ((vdats m 0 c).before 2 t d)) ∗ (∃ d, owns (c : Thread nD τ) (ms0_3 t) fullShare ((vdats m 0 c).before 3 t d)) ∗ (∃ d, owns (c : Thread nD τ) (ms0_4 t) fullShare ((vdats m 0 c).before 4 t d)) ∗ (∃ d, owns (c : Thread nD τ) (ms0_5 t) fullShare ((vdats m 0 c).before 5 t d)))
def vbodyPost (c : Dev nD) (t : Fin cfg0.N) : sProp 𝕄 :=
  iprop((vdats m 0 c).Φ t.succ ∗ (vdats m 0 c).owesAt () t.succ
    ∗ owns (c : Thread nD τ) (ms0_0 t) fullShare ((vdats m 0 c).after 0 t) ∗ owns (c : Thread nD τ) (ms0_1 t) fullShare ((vdats m 0 c).after 1 t) ∗ owns (c : Thread nD τ) (ms0_2 t) fullShare ((vdats m 0 c).after 2 t) ∗ owns (c : Thread nD τ) (ms0_3 t) fullShare ((vdats m 0 c).after 3 t) ∗ owns (c : Thread nD τ) (ms0_4 t) fullShare ((vdats m 0 c).after 4 t) ∗ owns (c : Thread nD τ) (ms0_5 t) fullShare ((vdats m 0 c).after 5 t))

/-- The body at a point, the five results named. -/
theorem vsound_body (c : Dev nD) (t : Fin cfg0.N) :
    vbodyPre m c t ⊢ wp frame (wpE (defs₀ (F := F)) Variants.none c none) Set.univ (bodyAt0 t) (fun _ => vbodyPost m c t) := by
  unfold vbodyPre vbodyPost bodyAt0
  simp only [vbefore, vafter0, vafter1, vafter2, vafter3, vafter4, vafter5]
  rw [show (vdats m 0 c).Φ t.succ = (vdats m 0 c).Φ t.castSucc from rfl,
    show (vdats m 0 c).owesAt () t.succ = (vdats m 0 c).owesAt () t.castSucc from rfl,
    show (vdats m 0 c).Φ t.castSucc = Pipeline.ΦA spec0 c from rfl, PhiA0_eq]
  iintro ⟨⟨⟨S0, S1, S2, S3⟩, Hg⟩, HO, ⟨%d0, W0⟩, ⟨%d1, W1⟩, ⟨%d2, W2⟩, ⟨%d3, W3⟩, ⟨%d4, W4⟩, ⟨%d5, W5⟩⟩
  iapply (bodyRun c (grid0.coords t) (ms0_0 t) (hs0_0 t) (ms0_1 t) (hs0_1 t) (ms0_2 t) (hs0_2 t) (ms0_3 t) (hs0_3 t) (ms0_4 t) (hs0_4 t) (ms0_5 t) (hs0_5 t) sc0 (Memref.isWhole_whole _) sc1 (Memref.isWhole_whole _) sc2 (Memref.isWhole_whole _) sc3 (Memref.isWhole_whole _) (iblk m c 0 t) _)
  isplitl [W0]; · iexact W0
  isplitl [W1]; · iexists _; iexact W1
  isplitl [W2]; · iexists _; iexact W2
  isplitl [W3]; · iexists _; iexact W3
  isplitl [W4]; · iexists _; iexact W4
  isplitl [W5]; · iexists _; iexact W5
  isplitl [S0]; · iexact S0
  isplitl [S1]; · iexact S1
  isplitl [S2]; · iexact S2
  isplitl [S3]; · iexact S3
  iintro ⟨W0, W1, W2, W3, W4, W5, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [HO]; · iexact HO
  isplitl [W0]; · iexact W0
  isplitl [W1]; · iexact W1
  isplitl [W2]; · iexact W2
  isplitl [W3]; · iexact W3
  isplitl [W4]; · iexact W4
  iexact W5

/-- The body obligation, every result named. -/
theorem vbody_obligation (c : Dev nD) :
    BodyObligation (vdats (F := F) m 0 c) (defs₀ (F := F)) Variants.none () Set.univ (fun _ => false) := fun t => by
  rw [bigSep_W0, bigSep_W0, fdefs₀_row]
  exact triple_restated (vsound_body m c t) rfl .rfl fun _ => .rfl

set_option backward.isDefEq.respectTransparency.types false in
/-- The run: every array at what the points left in it, every other buffer at what the host lines leave. -/
theorem vrun_main :
    θ_run defs (onTc (τ := τ) (main (F := F))) (s₀ m ρ)
      (fun r => Pipeline.FramePost cfgs (vdats m) 0 (Pipeline.afterTail₀ cfgs (vdats m) 0 (V0 m) [hostOps1]) r) :=
  Pipeline.θ_run_frame_around (Q' := _) cfgs (vdats m) (0 : Fin 1) launch0 defs₀ Variants.none m ρ main
    (hbody := fun c => (vbody_obligation m c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hΦ := fun _ _ => rfl)
    (hQ' := fun r h => h.1)

end Cert.KernelIdeal.Hand
end
-- ==== Proof.ValueArrays.lean ====
/-
  The five arrays the launch of `KernelIdeal` leaves, and the five results of the program, as functions of the
  argument: the number results group by group, the codes byte by byte.
-/
module

public import proofs.«01_k».proof.Proof.ValueFrame
public import Idealize.ShloMosaic.Lib.Pipeline.ValueKit
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

variable (m : (ℓ : Loc nD τ sig) → Buf (Elt F) ℓ) (ρ : Dev nD → PrngReg)

/-- Member `j` of group `g` of row `n` of matrix `mat` of the argument: the row's own value, zero at the places where
    the padded half of a pair would stand. -/
def gmem (X : S2x5760x2880.Idx → F .bf16) (mat : Fin 2) (n : Fin 5760) (g : ℕ) (j : ℕ) : F .f32 :=
  if j / 2 < 32 then FloatOps.extf .f32 (by decide) (X (ValueIdx.ix3 (n0 := 2) (n1 := 5760) (n2 := 2880) mat n ⟨(64 * g + j) % 2880, Nat.mod_lt _ (by decide)⟩)) else FloatOps.ofBits .f32 0#32

/-- Result `j` of the launch as an array. -/
def numArr (j : Fin 4) (X : S2x5760x2880.Idx → F .bf16) : S45x2x5760.Idx → F .f32 := fun y =>
  rowG (gmem X (y 1) (y 2) (y 0).val) j

/-- The packed codes as an array. -/
def codeArr (X : S2x5760x2880.Idx → F .bf16) : S2x720x5760.Idx → BitVec 8 := fun y =>
  ((rowWord (gmem X (y 0) (y 2) ((y 1).val / 16)) ((y 1).val / 4 % 4)) >>> (8 * ((y 1).val % 4))).setWidth 8

/-- The argument as device `c` holds it. -/
abbrev argX (c : Dev nD) : S2x5760x2880.Idx → F .bf16 := m ((c.tc : Thread nD τ).loc main_arg0)

theorem V_main_v0 (c : Dev nD) : V m c main_v0 = transpose S2x2880x5760 [0, 2, 1] (argX m c) transposes_S2x5760x2880_S2x2880x5760_0_2_1 := by
  unfold V V0 hostOps0
  simp only [List.flatten_cons, List.flatten_nil, List.append_nil]
  after_results

theorem e0 : ∀ t : Fin cfg0.N, win0_0.index t = ![0, 0, t.val] := (by decide +kernel : ∀ t : Fin grid0.N, _)
theorem e1 : ∀ t : Fin cfg0.N, win0_1.index t = ![0, 0, t.val] := (by decide +kernel : ∀ t : Fin grid0.N, _)
theorem e2 : ∀ t : Fin cfg0.N, win0_2.index t = ![0, 0, t.val] := (by decide +kernel : ∀ t : Fin grid0.N, _)
theorem e3 : ∀ t : Fin cfg0.N, win0_3.index t = ![0, 0, t.val] := (by decide +kernel : ∀ t : Fin grid0.N, _)
theorem e4 : ∀ t : Fin cfg0.N, win0_4.index t = ![0, 0, t.val] := (by decide +kernel : ∀ t : Fin grid0.N, _)
theorem e5 : ∀ t : Fin cfg0.N, win0_5.index t = ![0, 0, t.val] := (by decide +kernel : ∀ t : Fin grid0.N, _)

theorem N15 : cfg0.N = 15 := by decide +kernel

/-- The input block at a point, at an index. -/
theorem iblk0_apply (c : Dev nD) (t : Fin cfg0.N) (a : Fin 2) (k : Fin 2880) (n : Fin 384) :
    iblk m c 0 t (ValueIdx.ix3 (n0 := 2) (n1 := 2880) (n2 := 384) a k n)
      = argX m c (ValueIdx.ix3 (n0 := 2) (n1 := 5760) (n2 := 2880) a ⟨384 * t.val + n.val, by have := t.isLt; have := N15; omega⟩ k) := by
  blk_simp [iblk]
  rw [show V m c main_v0 = _ from V_main_v0 m c]
  refine transpose_apply (t := S2x2880x5760) _ _ _ _ _ (fun b => ?_)
  fin_cases b
  all_goals blk_simp [e0]
  · rfl
  · rfl
  · change 384 * t.val + n.val = t.val * 384 + n.val
    omega

theorem kmem_iblk (c : Dev nD) (t : Fin cfg0.N) (a : Fin 2) (n : Fin 384) (g : ℕ) :
    kmem (iblk m c 0 t) (rbOf a n) g ⟨n.val % 128, Nat.mod_lt _ (by decide)⟩
      = gmem (argX m c) a ⟨384 * t.val + n.val, by have := t.isLt; have := N15; omega⟩ g := by
  funext j
  unfold kmem gmem
  split
  · congr 1
    rw [iblk0_apply]
    congr 1
    have ha := a.isLt
    have hn := n.isLt
    congr 1
    · exact Fin.ext (by simp only [rbOf]; omega)
    · exact Fin.ext (by simp only [rbOf]; omega)
  · rfl

theorem codeBlk_at (c : Dev nD) (t : Fin cfg0.N) (y : S2x720x384.Idx) (i : S2x720x5760.Idx) (h0 : (i 0).val = (y 0).val)
    (h1 : (i 1).val = (y 1).val) (h2 : (i 2).val = 384 * t.val + (y 2).val) : codeBlk (iblk m c 0 t) y = codeArr (argX m c) i := by
  have e0 : i 0 = y 0 := Fin.ext h0
  have e2 : i 2 = ⟨384 * t.val + (y 2).val, by have := t.isLt; have := N15; have := (y 2).isLt; change (y 2).val < 384 at this; change _ < 5760; omega⟩ := Fin.ext h2
  have := kmem_iblk m c t (y 0) (y 2) ((y 1).val / 16)
  simp only [codeBlk, codeArr]
  rw [this, h1, e0, e2]
  rfl

theorem numBlk_at (c : Dev nD) (t : Fin cfg0.N) (j : Fin 4) (y : S45x2x384.Idx) (i : S45x2x5760.Idx) (h0 : (i 0).val = (y 0).val)
    (h1 : (i 1).val = (y 1).val) (h2 : (i 2).val = 384 * t.val + (y 2).val) : numBlk j (iblk m c 0 t) y = numArr j (argX m c) i := by
  have e1 : i 1 = y 1 := Fin.ext h1
  have e2 : i 2 = ⟨384 * t.val + (y 2).val, by have := t.isLt; have := N15; have := (y 2).isLt; change (y 2).val < 384 at this; change _ < 5760; omega⟩ := Fin.ext h2
  have := kmem_iblk m c t (y 1) (y 2) (y 0).val
  simp only [numBlk, numArr]
  rw [this, h0, e1, e2]
  rfl

theorem arr1 (c : Dev nD) : (vdats m 0 c).arrAt 1 cfg0.N = codeArr (argX m c) := by
  refine (vdats m 0 c).arrAt_eq_of_covers 1 _ (by decide +kernel) fun t hf y => ?_
  blk_simp
  rw [vafter1]
  refine codeBlk_at m c t y _ ?_ ?_ ?_
  all_goals blk_simp [e1]
  all_goals omega

theorem arr2 (c : Dev nD) : (vdats m 0 c).arrAt 2 cfg0.N = numArr 0 (argX m c) := by
  refine (vdats m 0 c).arrAt_eq_of_covers 2 _ (by decide +kernel) fun t hf y => ?_
  blk_simp
  rw [vafter2]
  refine numBlk_at m c t 0 y _ ?_ ?_ ?_
  all_goals blk_simp [e2]
  all_goals omega

theorem arr3 (c : Dev nD) : (vdats m 0 c).arrAt 3 cfg0.N = numArr 1 (argX m c) := by
  refine (vdats m 0 c).arrAt_eq_of_covers 3 _ (by decide +kernel) fun t hf y => ?_
  blk_simp
  rw [vafter3]
  refine numBlk_at m c t 1 y _ ?_ ?_ ?_
  all_goals blk_simp [e3]
  all_goals omega

theorem arr4 (c : Dev nD) : (vdats m 0 c).arrAt 4 cfg0.N = numArr 2 (argX m c) := by
  refine (vdats m 0 c).arrAt_eq_of_covers 4 _ (by decide +kernel) fun t hf y => ?_
  blk_simp
  rw [vafter4]
  refine numBlk_at m c t 2 y _ ?_ ?_ ?_
  all_goals blk_simp [e4]
  all_goals omega

theorem arr5 (c : Dev nD) : (vdats m 0 c).arrAt 5 cfg0.N = numArr 3 (argX m c) := by
  refine (vdats m 0 c).arrAt_eq_of_covers 5 _ (by decide +kernel) fun t hf y => ?_
  blk_simp
  rw [vafter5]
  refine numBlk_at m c t 3 y _ ?_ ?_ ?_
  all_goals blk_simp [e5]
  all_goals omega

/-! ## The results -/

/-- A result of numbers, row by row. -/
def numRes (j : Fin 4) (X : S2x5760x2880.Idx → F .bf16) : S2x5760x45.Idx → F .f32 := fun y =>
  rowG (gmem X (y 0) (y 1) (y 2).val) j

/-- The packed codes, row by row. -/
def codeRes (X : S2x5760x2880.Idx → F .bf16) : S2x5760x720.Idx → BitVec 8 := fun y =>
  ((rowWord (gmem X (y 0) (y 1) ((y 2).val / 16)) ((y 2).val / 4 % 4)) >>> (8 * ((y 2).val % 4))).setWidth 8

theorem numRes_eq (j : Fin 4) (X : S2x5760x2880.Idx → F .bf16) :
    transpose S2x5760x45 [1, 2, 0] (numArr j X) transposes_S45x2x5760_S2x5760x45_1_2_0 = numRes j X := by
  funext y
  exact transpose_apply (t := S2x5760x45) _ _ _ y (ValueIdx.ix3 (n0 := 45) (n1 := 2) (n2 := 5760) (y 2) (y 0) (y 1)) (fun b => by fin_cases b <;> rfl)

theorem codeRes_eq (X : S2x5760x2880.Idx → F .bf16) :
    transpose S2x5760x720 [0, 2, 1] (codeArr X) transposes_S2x720x5760_S2x5760x720_0_2_1 = codeRes X := by
  funext y
  exact transpose_apply (t := S2x5760x720) _ _ _ y (ValueIdx.ix3 (n0 := 2) (n1 := 720) (n2 := 5760) (y 0) (y 2) (y 1)) (fun b => by fin_cases b <;> rfl)

theorem arr_inj : Function.Injective (Pipeline.arrRef spec0) := by decide

theorem tail_v2 (c : Dev nD) : Pipeline.afterTail₀ cfgs (vdats m) 0 (V0 m) [hostOps1] c main_v2 = codeRes (argX m c) := by
  unfold Pipeline.afterTail₀ hostOps1
  simp only [List.flatten_cons, List.flatten_nil, List.append_nil]
  after_results
  rw [show Pipeline.withArrays spec0 c (V0 m c) (fun w => (vdats m 0 c).arrAt w cfg0.N) (Proc.devRef .tc main_v1_0) = (vdats m 0 c).arrAt 1 cfg0.N from Pipeline.withArrays_arr spec0 arr_inj c _ _ 1, arr1, codeRes_eq]

theorem tail_v3 (c : Dev nD) : Pipeline.afterTail₀ cfgs (vdats m) 0 (V0 m) [hostOps1] c main_v3 = numRes 0 (argX m c) := by
  unfold Pipeline.afterTail₀ hostOps1
  simp only [List.flatten_cons, List.flatten_nil, List.append_nil]
  after_results
  rw [show Pipeline.withArrays spec0 c (V0 m c) (fun w => (vdats m 0 c).arrAt w cfg0.N) (Proc.devRef .tc main_v1_1) = (vdats m 0 c).arrAt 2 cfg0.N from Pipeline.withArrays_arr spec0 arr_inj c _ _ 2, arr2, numRes_eq]

theorem tail_v4 (c : Dev nD) : Pipeline.afterTail₀ cfgs (vdats m) 0 (V0 m) [hostOps1] c main_v4 = numRes 1 (argX m c) := by
  unfold Pipeline.afterTail₀ hostOps1
  simp only [List.flatten_cons, List.flatten_nil, List.append_nil]
  after_results
  rw [show Pipeline.withArrays spec0 c (V0 m c) (fun w => (vdats m 0 c).arrAt w cfg0.N) (Proc.devRef .tc main_v1_2) = (vdats m 0 c).arrAt 3 cfg0.N from Pipeline.withArrays_arr spec0 arr_inj c _ _ 3, arr3, numRes_eq]

theorem tail_v5 (c : Dev nD) : Pipeline.afterTail₀ cfgs (vdats m) 0 (V0 m) [hostOps1] c main_v5 = numRes 2 (argX m c) := by
  unfold Pipeline.afterTail₀ hostOps1
  simp only [List.flatten_cons, List.flatten_nil, List.append_nil]
  after_results
  rw [show Pipeline.withArrays spec0 c (V0 m c) (fun w => (vdats m 0 c).arrAt w cfg0.N) (Proc.devRef .tc main_v1_3) = (vdats m 0 c).arrAt 4 cfg0.N from Pipeline.withArrays_arr spec0 arr_inj c _ _ 4, arr4, numRes_eq]

theorem tail_v6 (c : Dev nD) : Pipeline.afterTail₀ cfgs (vdats m) 0 (V0 m) [hostOps1] c main_v6 = numRes 3 (argX m c) := by
  unfold Pipeline.afterTail₀ hostOps1
  simp only [List.flatten_cons, List.flatten_nil, List.append_nil]
  after_results
  rw [show Pipeline.withArrays spec0 c (V0 m c) (fun w => (vdats m 0 c).arrAt w cfg0.N) (Proc.devRef .tc main_v1_4) = (vdats m 0 c).arrAt 5 cfg0.N from Pipeline.withArrays_arr spec0 arr_inj c _ _ 5, arr5, numRes_eq]

/-- The run of the whole program, its five results named. -/
theorem vrun_results :
    θ_run defs (onTc (τ := τ) (main (F := F))) (s₀ m ρ)
      (fun r => ∀ c : Dev nD, r.2.mem ((c.tc : Thread nD τ).loc main_v2) = codeRes (argX m c)
        ∧ r.2.mem ((c.tc : Thread nD τ).loc main_v3) = numRes 0 (argX m c)
        ∧ r.2.mem ((c.tc : Thread nD τ).loc main_v4) = numRes 1 (argX m c)
        ∧ r.2.mem ((c.tc : Thread nD τ).loc main_v5) = numRes 2 (argX m c)
        ∧ r.2.mem ((c.tc : Thread nD τ).loc main_v6) = numRes 3 (argX m c)
        ∧ r.2.mem ((c.tc : Thread nD τ).loc main_arg0) = m ((c.tc : Thread nD τ).loc main_arg0)) :=
  (θ_run _ _ _).mono (fun r h c => ⟨((h c).2 main_v2 (Pipeline.mem_restRefs_of main_v2 (by decide) (by decide))).trans (tail_v2 m c),
    ((h c).2 main_v3 (Pipeline.mem_restRefs_of main_v3 (by decide) (by decide))).trans (tail_v3 m c),
    ((h c).2 main_v4 (Pipeline.mem_restRefs_of main_v4 (by decide) (by decide))).trans (tail_v4 m c),
    ((h c).2 main_v5 (Pipeline.mem_restRefs_of main_v5 (by decide) (by decide))).trans (tail_v5 m c),
    ((h c).2 main_v6 (Pipeline.mem_restRefs_of main_v6 (by decide) (by decide))).trans (tail_v6 m c),
    ((h c).2 main_arg0 (Pipeline.mem_restRefs_of main_arg0 (by decide) (by decide))).trans (W_main_arg0 m (vdats m) c)⟩) (vrun_main m ρ)

end Cert.KernelIdeal.Hand
end
-- ==== Proof.Results.lean ====
/-
  The five results of the reference are the five results of the kernel, on an argument of real numbers.
-/
module

public import proofs.«01_k».proof.Proof.RefRun
public import proofs.«01_k».proof.Proof.RefPack
public import proofs.«01_k».proof.Proof.ValueArrays

@[expose] public section

noncomputable section

namespace Cert.Fit

open Idealize.ShloMosaic
open Cert.ReferenceIdeal Cert.ReferenceIdeal.Hand
open Cert.KernelIdeal.Hand (gmem numRes codeRes rowG rowS rowZ rowLp rowShift rowWord)

variable (x : S2x5760x2880.Idx → ℝ) (a : Fin 2) (g : Fin 45) (n : Fin 5760)

theorem gmem_up (g : ℕ) : gmem (F := Ideal) (upX x) a n g = up (grp x a n g) := by
  funext j
  show (if j / 2 < 32 then (((x (ValueIdx.ix3 a n ⟨(64 * g + j) % 2880, _⟩)) : ℝ) : EReal) else Ideal.ofBits .f32 0#32) = (((grp x a n g j : ℝ)) : EReal)
  unfold grp
  split
  · rfl
  · exact c0

theorem eq_place (k : Fin 720) : ∃ (g : Fin 45) (t : Fin 16), k = place g t :=
  ⟨⟨k.val / 16, by omega⟩, ⟨k.val % 16, by omega⟩, Fin.ext (by show k.val = 16 * (k.val / 16) + k.val % 16; omega)⟩

theorem scales_eq : rGroup (F := Ideal) (fun i => ((SA x i : ℝ) : EReal)) = numRes (F := Ideal) 0 (upX x) := by
  funext y
  obtain ⟨a, n, g, rfl⟩ : ∃ a n g, y = ix3 a n g := ⟨y 0, y 1, y 2, (ix3_eta y).symm⟩
  refine (rGroup_at a g n _).trans ?_
  show _ = rowS (gmem (F := Ideal) (upX x) a n g.val)
  rw [gmem_up, rowS_coe]
  rfl

theorem zeros_eq : rGroup (F := Ideal) (fun i => ((ZA x 20 i : ℝ) : EReal)) = numRes (F := Ideal) 1 (upX x) := by
  funext y
  obtain ⟨a, n, g, rfl⟩ : ∃ a n g, y = ix3 a n g := ⟨y 0, y 1, y 2, (ix3_eta y).symm⟩
  refine (rGroup_at a g n _).trans ?_
  show _ = rowZ (gmem (F := Ideal) (upX x) a n g.val)
  rw [gmem_up, rowZ_coe]
  rfl

theorem shift_eq : rGroup (F := Ideal) (subf (fun i => ((ZA x 20 i : ℝ) : EReal)) (fun i => ((ZA x 0 i : ℝ) : EReal))) = numRes (F := Ideal) 3 (upX x) := by
  funext y
  obtain ⟨a, n, g, rfl⟩ : ∃ a n g, y = ix3 a n g := ⟨y 0, y 1, y 2, (ix3_eta y).symm⟩
  refine (rGroup_at a g n _).trans ?_
  show (((ZA x 20 (gi a g n) : ℝ) : EReal) - ((ZA x 0 (gi a g n) : ℝ) : EReal)) = rowShift (gmem (F := Ideal) (upX x) a n g.val)
  rw [gmem_up, rowShift_coe]
  exact (EReal.coe_sub _ _).symm

theorem error_eq : rLp (F := Ideal) (fun i => ((WA x i : ℝ) : EReal)) (fun i => ((SA x i : ℝ) : EReal)) (fun i => ((ZA x 20 i : ℝ) : EReal))
    = numRes (F := Ideal) 2 (upX x) := by
  funext y
  obtain ⟨a, n, g, rfl⟩ : ∃ a n g, y = ix3 a n g := ⟨y 0, y 1, y 2, (ix3_eta y).symm⟩
  refine (rLp_at a g n _ _ _ (SA_pos x)).trans ?_
  show _ = rowLp (gmem (F := Ideal) (upX x) a n g.val)
  rw [gmem_up, rowLp_coe]
  rfl

/-- A code of the reference is the kernel's code. -/
theorem code_at (j : Fin 64) : rC (F := Ideal) (fun i => ((WA x i : ℝ) : EReal)) (fun i => ((SA x i : ℝ) : EReal)) (fun i => ((ZA x 20 i : ℝ) : EReal)) (mi a g j n)
    = BitVec.ofNat 32 (qnat (grp x a n g.val) j.val) :=
  (rC_at a g j n (WA x) (SA x) (ZA x 20) (SA_pos x)).trans rfl

/-- A byte of the kernel's codes. -/
theorem kernel_byte (t : Fin 16) : codeRes (F := Ideal) (upX x) (ix3 a n (place g t)) = BitVec.ofNat 8 (byte4 fun j => qnat (grp x a n g.val) (t.val * 4 + j)) := by
  have h0 : codeRes (F := Ideal) (upX x) (ix3 a n (place g t))
      = ((rowWord (gmem (F := Ideal) (upX x) a n ((16 * g.val + t.val) / 16)) ((16 * g.val + t.val) / 4 % 4)) >>> (8 * ((16 * g.val + t.val) % 4))).setWidth 8 := rfl
  have e1 : (16 * g.val + t.val) / 16 = g.val := by omega
  have e2 : 16 * ((16 * g.val + t.val) / 4 % 4) + 4 * ((16 * g.val + t.val) % 4) = t.val * 4 := by omega
  rw [h0, gmem_up, e1, rowWord_byte _ _ _ (Nat.mod_lt _ (by decide)), e2]

theorem codes_eq : rPack (rC (F := Ideal) (fun i => ((WA x i : ℝ) : EReal)) (fun i => ((SA x i : ℝ) : EReal)) (fun i => ((ZA x 20 i : ℝ) : EReal)))
    = codeRes (F := Ideal) (upX x) := by
  have hC := code_at x
  generalize rC (F := Ideal) (fun i => ((WA x i : ℝ) : EReal)) (fun i => ((SA x i : ℝ) : EReal)) (fun i => ((ZA x 20 i : ℝ) : EReal)) = C at hC ⊢
  funext y
  obtain ⟨a, n, k, rfl⟩ : ∃ a n k, y = ix3 a n k := ⟨y 0, y 1, y 2, (ix3_eta y).symm⟩
  obtain ⟨g, t, rfl⟩ := eq_place k
  exact (rPack_nat a g t n C (qnat (grp x a n g.val)) (qnat_lt _) (hC a g n)).trans (kernel_byte x a g n t).symm

end Cert.Fit
end
-- ==== Proof.Finite.lean ====
/-
  An argument that satisfies the precondition is an array of real numbers.
-/
module

public import proofs.«01_k».proof.Pre_finite
public import Idealize.ShloMosaic.PureOps.Ideal

@[expose] public section

noncomputable section

namespace Cert.Pre_finite

open Idealize.ShloMosaic

theorem facts : Cert.Pre_finite.Facts := ⟨by decide, by decide⟩

theorem bit_and : ∀ p q : Bool, (BitVec.ofBool p &&& BitVec.ofBool q : BitVec 1) = 1#1 → p = true ∧ q = true := by decide

theorem top32 : Ideal.ofBits .f32 0x7F800000#32 = (⊤ : EReal) := by simp [Ideal.ofBits, Ideal.ieee]
theorem bot32 : Ideal.ofBits .f32 0xFF800000#32 = (⊥ : EReal) := by simp [Ideal.ofBits, Ideal.ieee]

theorem real_of [Facts] (X : S2x5760x2880.Idx → Ideal .bf16) (h : Cert.Pre_finite.fn (F := Ideal) X = fun _ => 1#1) :
    ∃ x : S2x5760x2880.Idx → ℝ, X = fun i => ((x i : ℝ) : EReal) := by
  refine ⟨fun i => EReal.toReal (X i), funext fun i => ?_⟩
  have hi : (Ideal.cmp .olt (X i) (Ideal.ofBits .f32 0x7F800000#32) &&& Ideal.cmp .ogt (X i) (Ideal.ofBits .f32 0xFF800000#32) : BitVec 1) = 1#1 := congrFun h i
  rw [top32, bot32] at hi
  have hb := bit_and _ _ hi
  have h1 : (X i : EReal) < ⊤ := of_decide_eq_true hb.1
  have h2 : (⊥ : EReal) < X i := of_decide_eq_true hb.2
  exact (EReal.coe_toReal h1.ne h2.ne').symm

end Cert.Pre_finite
end
-- ==== Proof.Algebraic.lean ====
/-
  The idealized kernel and the reference leave the same five results on an argument of finite numbers.
-/
module

public import proofs.«01_k».proof.Defs
public import proofs.«01_k».proof.Proof.Results
public import proofs.«01_k».proof.Proof.Finite

@[expose] public section

noncomputable section

namespace Cert.Proof

open Idealize.ShloMosaic Idealize.ShloMosaic.TcCoe Idealize.ShloMosaic.StableHlo
open Cert.KernelIdeal.Hand (numRes codeRes argX vrun_results)
open Cert.ReferenceIdeal.Hand Cert.ReferenceIdeal.Value

instance elt_nonempty : ∀ e, Nonempty (Elt Ideal e) := fun e => by
  cases e <;> first | exact ⟨(0 : EReal)⟩ | exact ⟨(0 : BitVec _)⟩

section
variable (m' : (ℓ : Loc Cert.ReferenceIdeal.nD Cert.ReferenceIdeal.τ Cert.ReferenceIdeal.sig) → Buf (Elt Ideal) ℓ)
  (c : Dev Cert.ReferenceIdeal.nD) (X : Cert.ReferenceIdeal.S2x5760x2880.Idx → Ideal .bf16)
  (hX : m' ((c.tc : Thread Cert.ReferenceIdeal.nD Cert.ReferenceIdeal.τ).loc Cert.ReferenceIdeal.main_arg0) = X)
  (hf : ∃ x : Cert.ReferenceIdeal.S2x5760x2880.Idx → ℝ, X = fun i => ((x i : ℝ) : EReal))
include hX hf

/-- The reference's five results in the kernel's terms. -/
theorem ref_results :
    finalContents condOps preI bodyI postI 20 m' c (Proc.devRef .tc Cert.ReferenceIdeal.main_v60) = codeRes (F := Ideal) X
    ∧ finalContents condOps preI bodyI postI 20 m' c (Proc.devRef .tc Cert.ReferenceIdeal.main_v62) = numRes (F := Ideal) 0 X
    ∧ finalContents condOps preI bodyI postI 20 m' c (Proc.devRef .tc Cert.ReferenceIdeal.main_v64) = numRes (F := Ideal) 1 X
    ∧ finalContents condOps preI bodyI postI 20 m' c (Proc.devRef .tc Cert.ReferenceIdeal.main_v36) = numRes (F := Ideal) 2 X
    ∧ finalContents condOps preI bodyI postI 20 m' c (Proc.devRef .tc Cert.ReferenceIdeal.main_v39) = numRes (F := Ideal) 3 X := by
  obtain ⟨x, rfl⟩ := hf
  exact ⟨(final_v60 m' c x hX).trans (Cert.Fit.codes_eq x), (final_v62 m' c x hX).trans (Cert.Fit.scales_eq x),
    (final_v64 m' c x hX).trans (Cert.Fit.zeros_eq x), (final_v36 m' c x hX).trans (Cert.Fit.error_eq x),
    (final_v39 m' c x hX).trans (Cert.Fit.shift_eq x)⟩

end

/-- The five results agree. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre harg
  have hR : ∀ c, _ := fun c => ref_results m' c (argX m c) (harg c) (@Cert.Pre_finite.real_of Cert.Pre_finite.facts _ (hpre c))
  refine ⟨fun c => codeRes (argX m c), fun c => numRes 0 (argX m c), fun c => numRes 1 (argX m c), fun c => numRes 2 (argX m c), fun c => numRes 3 (argX m c),
    vrun_results m g, ?_⟩
  refine (θ_run _ _ _).mono (fun r h c => ?_) (run_fold m' g')
  exact ⟨(h c Cert.ReferenceIdeal.main_v60 rfl).trans (hR c).1, (h c Cert.ReferenceIdeal.main_v62 rfl).trans (hR c).2.1,
    (h c Cert.ReferenceIdeal.main_v64 rfl).trans (hR c).2.2.1, (h c Cert.ReferenceIdeal.main_v36 rfl).trans (hR c).2.2.2.1,
    (h c Cert.ReferenceIdeal.main_v39 rfl).trans (hR c).2.2.2.2, (h c Cert.ReferenceIdeal.main_arg0 rfl).trans (arg0_eq m' c)⟩

end Cert.Proof
end
-- ==== Proof.lean ====
/-
  The proof of `Cert.Claim`: the three frames, the idealization ledger, and the agreement of the five results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.KernelFrame
public import proofs.«01_k».proof.Proof.KernelIdealFrame
public import proofs.«01_k».proof.Proof.RefFrame
public import proofs.«01_k».proof.Proof.Algebraic
public import Idealize.ShloMosaic.Lib.Bf16Pair

@[expose] public section

noncomputable section

namespace Cert.Proof

open Idealize.ShloMosaic

/-- Every rewrite of the idealization satisfies the statement of its rule. -/
theorem preserves : Cert.preserves_Kernel_KernelIdeal :=
  ⟨IdealRules.named_const.statement Cert.KernelIdeal.κ "lp_norm" .f32 0x3F333333#32 _ rfl,
   IdealRules.named_const.statement Cert.KernelIdeal.κ "lp_less_two" .f32 0xBFA66666#32 _ rfl,
   IdealRules.bf16_pair.statement _ _, IdealRules.bf16_pair.statement _ _, IdealRules.bf16_pair.statement _ _,
   IdealRules.named_const.statement Cert.KernelIdeal.κ "log2_beta_init" .f32 0x40549A78#32 _ rfl,
   IdealRules.named_const.statement Cert.KernelIdeal.κ "log2_beta_growth" .f32 0x3C6B3276#32 _ rfl⟩

theorem claim : Cert.Claim :=
  ⟨Cert.Kernel.Gen.facts, Cert.KernelIdeal.Gen.facts, Cert.ReferenceIdeal.Gen.facts, Cert.Pre_finite.facts,
   fun m g _ => Cert.Kernel.Hand.frun_main m g,
   fun m g _ => Cert.KernelIdeal.Hand.frun_main m g,
   fun m g _ => Cert.KernelIdeal.Hand.frun_main m g,
   fun m g _ => Cert.ReferenceIdeal.Hand.frame m g,
   fun m g _ => Cert.ReferenceIdeal.Hand.frame m g,
   preserves, algebraic⟩

end Cert.Proof

end
